-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
-- ==== Pre_finite_qk.lean ====
abbrev S8192x6144 : Shape := ⟨2, ![8192, 6144]⟩
abbrev S8192x4096 : Shape := ⟨2, ![8192, 4096]⟩
abbrev S_ : Shape := ⟨0, ![]⟩

class Facts : Prop where
  slices_S8192x6144_S8192x4096_0_0 : S8192x6144.Slices ![0, 0] S8192x4096
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x6144 .bf16) : IVec S_ 1 :=
  let main_v0 : FVec F S8192x4096 .bf16 := (extractStridedSlice S8192x4096 ![0, 0] · slices_S8192x6144_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  main_v5
-- ==== Kernel.lean ====
abbrev S8192x6144 : Shape := ⟨2, ![8192, 6144]⟩
abbrev S_ : Shape := ⟨0, ![]⟩
abbrev S256x256 : Shape := ⟨2, ![256, 256]⟩
abbrev S512x256 : Shape := ⟨2, ![512, 256]⟩
abbrev S8192x2048 : Shape := ⟨2, ![8192, 2048]⟩
abbrev S256x1024 : Shape := ⟨2, ![256, 1024]⟩
abbrev S4096x1024 : Shape := ⟨2, ![4096, 1024]⟩
abbrev S8x256x128 : Shape := ⟨3, ![8, 256, 128]⟩
abbrev S256x1 : Shape := ⟨2, ![256, 1]⟩
abbrev S256x128 : Shape := ⟨2, ![256, 128]⟩
abbrev S256x512 : Shape := ⟨2, ![256, 512]⟩
abbrev S1x256x128 : Shape := ⟨3, ![1, 256, 128]⟩

abbrev nBuf : Space → Nat
  | .hbm => 15
  | .vmem => 10
  | .smem => 0
  | _ => 0

abbrev bufTy : (tb : Table) → Fin (tcTables nBuf tb) → BufTy
  | .hbm, ⟨0, _⟩ => ⟨S8192x6144, .bf16⟩
  | .hbm, ⟨1, _⟩ => ⟨S_, .f32⟩
  | .hbm, ⟨2, _⟩ => ⟨S256x256, .f32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S512x256, .f32⟩
  | .hbm, ⟨13, _⟩ => ⟨S512x256, .bf16⟩
  | .hbm, ⟨14, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S512x256, .bf16⟩
  | .local _ .vmem, ⟨7, _⟩ => ⟨S256x1024, .bf16⟩
  | .local _ .vmem, ⟨8, _⟩ => ⟨S256x1024, .bf16⟩
  | .local _ .vmem, ⟨9, _⟩ => ⟨S8x256x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 16], ![false, false, false]⟩

def k0_mult1 (i : grid0.Coords) : BitVec 32 :=
  let arg2 : BitVec 32 := BitVec.ofNat 32 (i 2).val
  let c256_i32 : BitVec 32 := 256#32
  let v14 : BitVec 32 := Scalar.muli arg2 c256_i32
  v14
def k0_mult2 (i : grid0.Coords) : BitVec 32 :=
  let arg2 : BitVec 32 := BitVec.ofNat 32 (i 2).val
  let c256_i32_12 : BitVec 32 := 256#32
  let v16 : BitVec 32 := Scalar.muli arg2 c256_i32_12
  v16
def k0_off1 (i : grid0.Coords) : Fin 2 → Nat :=
  let arg2 : BitVec 32 := BitVec.ofNat 32 (i 2).val
  let c256_i32_12 : BitVec 32 := 256#32
  let v16 : BitVec 32 := Scalar.muli arg2 c256_i32_12
  let v17 : BitVec 32 := v16
  let v19 : Index := Scalar.indexCast v17
  let c0_15 : Index := 0#32
  ![v19.toNat, 0]
def k0_off2 (i : grid0.Coords) : Fin 2 → Nat :=
  let arg2 : BitVec 32 := BitVec.ofNat 32 (i 2).val
  let c256_i32_12 : BitVec 32 := 256#32
  let v16 : BitVec 32 := Scalar.muli arg2 c256_i32_12
  let v17 : BitVec 32 := v16
  let v23 : Index := Scalar.indexCast v17
  let c128_18 : Index := 128#32
  ![v23.toNat, 128]
def k0_off3 (i : grid0.Coords) : Fin 2 → Nat :=
  let arg2 : BitVec 32 := BitVec.ofNat 32 (i 2).val
  let c256_i32_12 : BitVec 32 := 256#32
  let v16 : BitVec 32 := Scalar.muli arg2 c256_i32_12
  let v17 : BitVec 32 := v16
  let v27 : Index := Scalar.indexCast v17
  let c256_21 : Index := 256#32
  ![v27.toNat, 256]
def k0_off4 (i : grid0.Coords) : Fin 2 → Nat :=
  let arg2 : BitVec 32 := BitVec.ofNat 32 (i 2).val
  let c256_i32_12 : BitVec 32 := 256#32
  let v16 : BitVec 32 := Scalar.muli arg2 c256_i32_12
  let v17 : BitVec 32 := v16
  let v31 : Index := Scalar.indexCast v17
  let c384_24 : Index := 384#32
  ![v31.toNat, 384]
def k0_off5 (i : grid0.Coords) : Fin 2 → Nat :=
  let arg2 : BitVec 32 := BitVec.ofNat 32 (i 2).val
  let c256_i32_12 : BitVec 32 := 256#32
  let v16 : BitVec 32 := Scalar.muli arg2 c256_i32_12
  let v17 : BitVec 32 := v16
  let v35 : Index := Scalar.indexCast v17
  let c512_27 : Index := 512#32
  ![v35.toNat, 512]
def k0_off6 (i : grid0.Coords) : Fin 2 → Nat :=
  let arg2 : BitVec 32 := BitVec.ofNat 32 (i 2).val
  let c256_i32_12 : BitVec 32 := 256#32
  let v16 : BitVec 32 := Scalar.muli arg2 c256_i32_12
  let v17 : BitVec 32 := v16
  let v39 : Index := Scalar.indexCast v17
  let c640_30 : Index := 640#32
  ![v39.toNat, 640]
def k0_off7 (i : grid0.Coords) : Fin 2 → Nat :=
  let arg2 : BitVec 32 := BitVec.ofNat 32 (i 2).val
  let c256_i32_12 : BitVec 32 := 256#32
  let v16 : BitVec 32 := Scalar.muli arg2 c256_i32_12
  let v17 : BitVec 32 := v16
  let v43 : Index := Scalar.indexCast v17
  let c768_33 : Index := 768#32
  ![v43.toNat, 768]
def k0_off8 (i : grid0.Coords) : Fin 2 → Nat :=
  let arg2 : BitVec 32 := BitVec.ofNat 32 (i 2).val
  let c256_i32_12 : BitVec 32 := 256#32
  let v16 : BitVec 32 := Scalar.muli arg2 c256_i32_12
  let v17 : BitVec 32 := v16
  let v47 : Index := Scalar.indexCast v17
  let c896_36 : Index := 896#32
  ![v47.toNat, 896]
@[reducible] def k0_t1_loop (i : grid0.Coords) : Scf.Loop 32 :=
  let c0_i32_166 : BitVec 32 := 0#32
  let arg2 : BitVec 32 := BitVec.ofNat 32 (i 2).val
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let c1_i32_167 : BitVec 32 := 1#32
  ⟨c0_i32_166, v430, c1_i32_167⟩
def k0_mult3 (i : grid0.Coords) (k0_t1 : Fin (k0_t1_loop i).trips) : BitVec 32 :=
  let arg2 : BitVec 32 := BitVec.ofNat 32 (i 2).val
  let c1_i32_209 : BitVec 32 := 1#32
  let v465 : BitVec 32 := Scalar.subi arg2 c1_i32_209
  let c0_i32_166 : BitVec 32 := 0#32
  let c1_i32_167 : BitVec 32 := 1#32
  let arg9 : BitVec 32 := Scf.iv c0_i32_166 c1_i32_167 k0_t1
  let v466 : BitVec 32 := Scalar.subi v465 arg9
  let c256_i32_210 : BitVec 32 := 256#32
  let v467 : BitVec 32 := Scalar.muli v466 c256_i32_210
  v467
def k0_mult4 (i : grid0.Coords) (k0_t1 : Fin (k0_t1_loop i).trips) : BitVec 32 :=
  let arg2 : BitVec 32 := BitVec.ofNat 32 (i 2).val
  let c1_i32_209 : BitVec 32 := 1#32
  let v465 : BitVec 32 := Scalar.subi arg2 c1_i32_209
  let c0_i32_166 : BitVec 32 := 0#32
  let c1_i32_167 : BitVec 32 := 1#32
  let arg9 : BitVec 32 := Scf.iv c0_i32_166 c1_i32_167 k0_t1
  let v466 : BitVec 32 := Scalar.subi v465 arg9
  let c256_i32_211 : BitVec 32 := 256#32
  let v469 : BitVec 32 := Scalar.muli v466 c256_i32_211
  v469
def k0_off9 (i : grid0.Coords) (k0_t1 : Fin (k0_t1_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let c1_i32_167 : BitVec 32 := 1#32
  let arg9 : BitVec 32 := Scf.iv c0_i32_166 c1_i32_167 k0_t1
  let v466 : BitVec 32 := Scalar.subi v465 arg9
  let c256_i32_211 : BitVec 32 := 256#32
  let v469 : BitVec 32 := Scalar.muli v466 c256_i32_211
  let v470 : BitVec 32 := v469
  let v472 : Index := Scalar.indexCast v470
  let c0_214 : Index := 0#32
  ![v472.toNat, 0]
def k0_off10 (i : grid0.Coords) (k0_t1 : Fin (k0_t1_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let c1_i32_167 : BitVec 32 := 1#32
  let arg9 : BitVec 32 := Scf.iv c0_i32_166 c1_i32_167 k0_t1
  let v466 : BitVec 32 := Scalar.subi v465 arg9
  let c256_i32_211 : BitVec 32 := 256#32
  let v469 : BitVec 32 := Scalar.muli v466 c256_i32_211
  let v470 : BitVec 32 := v469
  let v476 : Index := Scalar.indexCast v470
  let c128_218 : Index := 128#32
  ![v476.toNat, 128]
def k0_off11 (i : grid0.Coords) (k0_t1 : Fin (k0_t1_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let c1_i32_167 : BitVec 32 := 1#32
  let arg9 : BitVec 32 := Scf.iv c0_i32_166 c1_i32_167 k0_t1
  let v466 : BitVec 32 := Scalar.subi v465 arg9
  let c256_i32_211 : BitVec 32 := 256#32
  let v469 : BitVec 32 := Scalar.muli v466 c256_i32_211
  let v470 : BitVec 32 := v469
  let v480 : Index := Scalar.indexCast v470
  let c256_222 : Index := 256#32
  ![v480.toNat, 256]
def k0_off12 (i : grid0.Coords) (k0_t1 : Fin (k0_t1_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let c1_i32_167 : BitVec 32 := 1#32
  let arg9 : BitVec 32 := Scf.iv c0_i32_166 c1_i32_167 k0_t1
  let v466 : BitVec 32 := Scalar.subi v465 arg9
  let c256_i32_211 : BitVec 32 := 256#32
  let v469 : BitVec 32 := Scalar.muli v466 c256_i32_211
  let v470 : BitVec 32 := v469
  let v484 : Index := Scalar.indexCast v470
  let c384_226 : Index := 384#32
  ![v484.toNat, 384]
def k0_off13 (i : grid0.Coords) (k0_t1 : Fin (k0_t1_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let c1_i32_167 : BitVec 32 := 1#32
  let arg9 : BitVec 32 := Scf.iv c0_i32_166 c1_i32_167 k0_t1
  let v466 : BitVec 32 := Scalar.subi v465 arg9
  let c256_i32_211 : BitVec 32 := 256#32
  let v469 : BitVec 32 := Scalar.muli v466 c256_i32_211
  let v470 : BitVec 32 := v469
  let v488 : Index := Scalar.indexCast v470
  let c512_230 : Index := 512#32
  ![v488.toNat, 512]
def k0_off14 (i : grid0.Coords) (k0_t1 : Fin (k0_t1_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let c1_i32_167 : BitVec 32 := 1#32
  let arg9 : BitVec 32 := Scf.iv c0_i32_166 c1_i32_167 k0_t1
  let v466 : BitVec 32 := Scalar.subi v465 arg9
  let c256_i32_211 : BitVec 32 := 256#32
  let v469 : BitVec 32 := Scalar.muli v466 c256_i32_211
  let v470 : BitVec 32 := v469
  let v492 : Index := Scalar.indexCast v470
  let c640_234 : Index := 640#32
  ![v492.toNat, 640]
def k0_off15 (i : grid0.Coords) (k0_t1 : Fin (k0_t1_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let c1_i32_167 : BitVec 32 := 1#32
  let arg9 : BitVec 32 := Scf.iv c0_i32_166 c1_i32_167 k0_t1
  let v466 : BitVec 32 := Scalar.subi v465 arg9
  let c256_i32_211 : BitVec 32 := 256#32
  let v469 : BitVec 32 := Scalar.muli v466 c256_i32_211
  let v470 : BitVec 32 := v469
  let v496 : Index := Scalar.indexCast v470
  let c768_238 : Index := 768#32
  ![v496.toNat, 768]
def k0_off16 (i : grid0.Coords) (k0_t1 : Fin (k0_t1_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let c1_i32_167 : BitVec 32 := 1#32
  let arg9 : BitVec 32 := Scf.iv c0_i32_166 c1_i32_167 k0_t1
  let v466 : BitVec 32 := Scalar.subi v465 arg9
  let c256_i32_211 : BitVec 32 := 256#32
  let v469 : BitVec 32 := Scalar.muli v466 c256_i32_211
  let v470 : BitVec 32 := v469
  let v500 : Index := Scalar.indexCast v470
  let c896_242 : Index := 896#32
  ![v500.toNat, 896]
@[reducible] def k0_t2_loop (i : grid0.Coords) : Scf.Loop 32 :=
  let c0_i32_166 : BitVec 32 := 0#32
  let arg2 : BitVec 32 := BitVec.ofNat 32 (i 2).val
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let v427 : BitVec 32 := Scalar.addi c0_i32_166 v426
  let c1_i32_168 : BitVec 32 := 1#32
  ⟨v430, v427, c1_i32_168⟩
def k0_mult5 (i : grid0.Coords) (k0_t2 : Fin (k0_t2_loop i).trips) : BitVec 32 :=
  let arg2 : BitVec 32 := BitVec.ofNat 32 (i 2).val
  let c1_i32_209 : BitVec 32 := 1#32
  let v465 : BitVec 32 := Scalar.subi arg2 c1_i32_209
  let c0_i32_166 : BitVec 32 := 0#32
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let c1_i32_168 : BitVec 32 := 1#32
  let arg9 : BitVec 32 := Scf.iv v430 c1_i32_168 k0_t2
  let v466 : BitVec 32 := Scalar.subi v465 arg9
  let c256_i32_210 : BitVec 32 := 256#32
  let v467 : BitVec 32 := Scalar.muli v466 c256_i32_210
  v467
def k0_mult6 (i : grid0.Coords) (k0_t2 : Fin (k0_t2_loop i).trips) : BitVec 32 :=
  let arg2 : BitVec 32 := BitVec.ofNat 32 (i 2).val
  let c1_i32_209 : BitVec 32 := 1#32
  let v465 : BitVec 32 := Scalar.subi arg2 c1_i32_209
  let c0_i32_166 : BitVec 32 := 0#32
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let c1_i32_168 : BitVec 32 := 1#32
  let arg9 : BitVec 32 := Scf.iv v430 c1_i32_168 k0_t2
  let v466 : BitVec 32 := Scalar.subi v465 arg9
  let c256_i32_211 : BitVec 32 := 256#32
  let v469 : BitVec 32 := Scalar.muli v466 c256_i32_211
  v469
def k0_off17 (i : grid0.Coords) (k0_t2 : Fin (k0_t2_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let c1_i32_168 : BitVec 32 := 1#32
  let arg9 : BitVec 32 := Scf.iv v430 c1_i32_168 k0_t2
  let v466 : BitVec 32 := Scalar.subi v465 arg9
  let c256_i32_211 : BitVec 32 := 256#32
  let v469 : BitVec 32 := Scalar.muli v466 c256_i32_211
  let v470 : BitVec 32 := v469
  let v472 : Index := Scalar.indexCast v470
  let c0_214 : Index := 0#32
  ![v472.toNat, 0]
def k0_off18 (i : grid0.Coords) (k0_t2 : Fin (k0_t2_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let c1_i32_168 : BitVec 32 := 1#32
  let arg9 : BitVec 32 := Scf.iv v430 c1_i32_168 k0_t2
  let v466 : BitVec 32 := Scalar.subi v465 arg9
  let c256_i32_211 : BitVec 32 := 256#32
  let v469 : BitVec 32 := Scalar.muli v466 c256_i32_211
  let v470 : BitVec 32 := v469
  let v476 : Index := Scalar.indexCast v470
  let c128_218 : Index := 128#32
  ![v476.toNat, 128]
def k0_off19 (i : grid0.Coords) (k0_t2 : Fin (k0_t2_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let c1_i32_168 : BitVec 32 := 1#32
  let arg9 : BitVec 32 := Scf.iv v430 c1_i32_168 k0_t2
  let v466 : BitVec 32 := Scalar.subi v465 arg9
  let c256_i32_211 : BitVec 32 := 256#32
  let v469 : BitVec 32 := Scalar.muli v466 c256_i32_211
  let v470 : BitVec 32 := v469
  let v480 : Index := Scalar.indexCast v470
  let c256_222 : Index := 256#32
  ![v480.toNat, 256]
def k0_off20 (i : grid0.Coords) (k0_t2 : Fin (k0_t2_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let c1_i32_168 : BitVec 32 := 1#32
  let arg9 : BitVec 32 := Scf.iv v430 c1_i32_168 k0_t2
  let v466 : BitVec 32 := Scalar.subi v465 arg9
  let c256_i32_211 : BitVec 32 := 256#32
  let v469 : BitVec 32 := Scalar.muli v466 c256_i32_211
  let v470 : BitVec 32 := v469
  let v484 : Index := Scalar.indexCast v470
  let c384_226 : Index := 384#32
  ![v484.toNat, 384]
def k0_off21 (i : grid0.Coords) (k0_t2 : Fin (k0_t2_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let c1_i32_168 : BitVec 32 := 1#32
  let arg9 : BitVec 32 := Scf.iv v430 c1_i32_168 k0_t2
  let v466 : BitVec 32 := Scalar.subi v465 arg9
  let c256_i32_211 : BitVec 32 := 256#32
  let v469 : BitVec 32 := Scalar.muli v466 c256_i32_211
  let v470 : BitVec 32 := v469
  let v488 : Index := Scalar.indexCast v470
  let c512_230 : Index := 512#32
  ![v488.toNat, 512]
def k0_off22 (i : grid0.Coords) (k0_t2 : Fin (k0_t2_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let c1_i32_168 : BitVec 32 := 1#32
  let arg9 : BitVec 32 := Scf.iv v430 c1_i32_168 k0_t2
  let v466 : BitVec 32 := Scalar.subi v465 arg9
  let c256_i32_211 : BitVec 32 := 256#32
  let v469 : BitVec 32 := Scalar.muli v466 c256_i32_211
  let v470 : BitVec 32 := v469
  let v492 : Index := Scalar.indexCast v470
  let c640_234 : Index := 640#32
  ![v492.toNat, 640]
def k0_off23 (i : grid0.Coords) (k0_t2 : Fin (k0_t2_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let c1_i32_168 : BitVec 32 := 1#32
  let arg9 : BitVec 32 := Scf.iv v430 c1_i32_168 k0_t2
  let v466 : BitVec 32 := Scalar.subi v465 arg9
  let c256_i32_211 : BitVec 32 := 256#32
  let v469 : BitVec 32 := Scalar.muli v466 c256_i32_211
  let v470 : BitVec 32 := v469
  let v496 : Index := Scalar.indexCast v470
  let c768_238 : Index := 768#32
  ![v496.toNat, 768]
def k0_off24 (i : grid0.Coords) (k0_t2 : Fin (k0_t2_loop i).trips) : Fin 2 → Nat :=
  let arg2 : BitVec 32 := BitVec.ofNat 32 (i 2).val
  let c1_i32_209 : BitVec 32 := 1#32
  let v465 : BitVec 32 := Scalar.subi arg2 c1_i32_209
  let c0_i32_166 : BitVec 32 := 0#32
  let v426 : BitVec 32 := Scalar.subi arg2 c0_i32_166
  let c1_i32 : BitVec 32 := 1#32
  let v428 : BitVec 32 := Scalar.divsi v426 c1_i32
  let v429 : BitVec 32 := Scalar.muli v428 c1_i32
  let v430 : BitVec 32 := Scalar.addi c0_i32_166 v429
  let c1_i32_168 : BitVec 32 := 1#32
  let arg9 : BitVec 32 := Scf.iv v430 c1_i32_168 k0_t2
  let v466 : BitVec 32 := Scalar.subi v465 arg9
  let c256_i32_211 : BitVec 32 := 256#32
  let v469 : BitVec 32 := Scalar.muli v466 c256_i32_211
  let v470 : BitVec 32 := v469
  let v500 : Index := Scalar.indexCast v470
  let c896_242 : Index := 896#32
  ![v500.toNat, 896]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8192x6144 : Shape := ⟨2, ![8192, 6144]⟩
abbrev S2x4096x6144 : Shape := ⟨3, ![2, 4096, 6144]⟩
abbrev S2x4096x2048 : Shape := ⟨3, ![2, 4096, 2048]⟩
abbrev S2x4096x16x128 : Shape := ⟨4, ![2, 4096, 16, 128]⟩
abbrev S2x16x4096x128 : Shape := ⟨4, ![2, 16, 4096, 128]⟩
abbrev S2x16x4096x4096 : Shape := ⟨4, ![2, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8192x2048 : Shape := ⟨2, ![8192, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x6144, .f32⟩
  | .hbm, ⟨2, _⟩ => ⟨S2x4096x6144, .f32⟩
  | .hbm, ⟨3, _⟩ => ⟨S2x4096x2048, .f32⟩
  | .hbm, ⟨4, _⟩ => ⟨S2x4096x2048, .f32⟩
  | .hbm, ⟨5, _⟩ => ⟨S2x4096x2048, .f32⟩
  | .hbm, ⟨6, _⟩ => ⟨S2x4096x16x128, .f32⟩
  | .hbm, ⟨7, _⟩ => ⟨S2x16x4096x128, .f32⟩
  | .hbm, ⟨8, _⟩ => ⟨S2x4096x16x128, .f32⟩
  | .hbm, ⟨9, _⟩ => ⟨S2x16x4096x128, .f32⟩
  | .hbm, ⟨10, _⟩ => ⟨S2x4096x16x128, .f32⟩
  | .hbm, ⟨11, _⟩ => ⟨S2x16x4096x128, .f32⟩
  | .hbm, ⟨12, _⟩ => ⟨S2x16x4096x4096, .f32⟩
  | .hbm, ⟨13, _⟩ => ⟨S_, .f32⟩
  | .hbm, ⟨14, _⟩ => ⟨S_, .f32⟩
  | .hbm, ⟨15, _⟩ => ⟨S2x16x4096x4096, .f32⟩
  | .hbm, ⟨16, _⟩ => ⟨S2x16x4096x4096, .f32⟩
  | .hbm, ⟨17, _⟩ => ⟨S4096, .i32⟩
  | .hbm, ⟨18, _⟩ => ⟨S1x4096, .i32⟩
  | .hbm, ⟨19, _⟩ => ⟨S4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .f32⟩
  | .hbm, ⟨29, _⟩ => ⟨S2x16x4096x4096, .i1⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S2x16x4096x4096, .f32⟩
  | .hbm, ⟨39, _⟩ => ⟨S_, .f32⟩
  | .hbm, ⟨40, _⟩ => ⟨S_, .f32⟩
  | .hbm, ⟨41, _⟩ => ⟨S2x16x4096x4096, .i1⟩
  | .hbm, ⟨42, _⟩ => ⟨S2x16x4096x4096, .f32⟩
  | .hbm, ⟨43, _⟩ => ⟨S2x16x4096x4096, .f32⟩
  | .hbm, ⟨44, _⟩ => ⟨S_, .f32⟩
  | .hbm, ⟨45, _⟩ => ⟨S_, .f32⟩
  | .hbm, ⟨46, _⟩ => ⟨S2x16x4096x4096, .f32⟩
  | .hbm, ⟨47, _⟩ => ⟨S2x16x4096x4096, .f32⟩
  | .hbm, ⟨48, _⟩ => ⟨S2x16x4096x4096, .f32⟩
  | .hbm, ⟨49, _⟩ => ⟨S_, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .f32⟩
  | .hbm, ⟨53, _⟩ => ⟨S2x16x4096x4096, .f32⟩
  | .hbm, ⟨54, _⟩ => ⟨S2x16x4096x4096, .i1⟩
  | .hbm, ⟨55, _⟩ => ⟨S2x16x4096x4096, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S2x16x4096x4096, .f32⟩
  | .hbm, ⟨66, _⟩ => ⟨S_, .f32⟩
  | .hbm, ⟨67, _⟩ => ⟨S_, .f32⟩
  | .hbm, ⟨68, _⟩ => ⟨S2x16x4096x4096, .i1⟩
  | .hbm, ⟨69, _⟩ => ⟨S2x16x4096x4096, .f32⟩
  | .hbm, ⟨70, _⟩ => ⟨S2x16x4096x4096, .f32⟩
  | .hbm, ⟨71, _⟩ => ⟨S2x16x4096x128, .f32⟩
  | .hbm, ⟨72, _⟩ => ⟨S2x4096x16x128, .f32⟩
  | .hbm, ⟨73, _⟩ => ⟨S8192x2048, .f32⟩
  | .hbm, ⟨74, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v24 : Ref sig .tc := ⟨.hbm, 43, rfl⟩
abbrev main_call2_cst : Ref sig .tc := ⟨.hbm, 44, rfl⟩
abbrev main_call2_v0 : Ref sig .tc := ⟨.hbm, 45, rfl⟩
abbrev main_v25 : Ref sig .tc := ⟨.hbm, 46, rfl⟩
abbrev main_v26 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩

abbrev nD : Nat := 1
abbrev τ : Topo := Topo.v7x

variable {F : FTy → Type} [FloatOps F]
-- ==== Kernel2.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S1x2048x8192, .f32⟩
  | .hbm, ⟨7, _⟩ => ⟨S2048x8192, .f32⟩
  | .hbm, ⟨8, _⟩ => ⟨S1x8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x2048, .f32⟩
  | .hbm, ⟨32, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel3.lean ====
abbrev S8192x2048 : Shape := ⟨2, ![8192, 2048]⟩
abbrev S2x2048 : Shape := ⟨2, ![2, 2048]⟩
abbrev S2x2048x6144 : Shape := ⟨3, ![2, 2048, 6144]⟩
abbrev S_ : Shape := ⟨0, ![]⟩
abbrev S2048 : Shape := ⟨1, ![2048]⟩
abbrev S4096 : Shape := ⟨1, ![4096]⟩
abbrev S6144 : Shape := ⟨1, ![6144]⟩
abbrev S1x2048 : Shape := ⟨2, ![1, 2048]⟩
abbrev S1x6144 : Shape := ⟨2, ![1, 6144]⟩
abbrev S6 : Shape := ⟨1, ![6]⟩
abbrev S8192x6144 : Shape := ⟨2, ![8192, 6144]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S1x2048x256 : Shape := ⟨3, ![1, 2048, 256]⟩
abbrev S2048x256 : Shape := ⟨2, ![2048, 256]⟩
abbrev S1024x256 : Shape := ⟨2, ![1024, 256]⟩
abbrev S1x256 : Shape := ⟨2, ![1, 256]⟩

abbrev nBuf : Space → Nat
  | .hbm => 14
  | .vmem => 10
  | .smem => 1
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x6144, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S4096, .f32⟩
  | .hbm, ⟨7, _⟩ => ⟨S6144, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x6144, .f32⟩
  | .hbm, ⟨12, _⟩ => ⟨S_, .i32⟩
  | .hbm, ⟨13, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | .local _ .smem, ⟨0, _⟩ => ⟨S6, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v8 : Ref sig .tc := ⟨.hbm, 13, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x2048 : Shape := ⟨2, ![8192, 2048]⟩
abbrev S2x2048 : Shape := ⟨2, ![2, 2048]⟩
abbrev S2x2048x6144 : Shape := ⟨3, ![2, 2048, 6144]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x6144, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x6144, .f32⟩
  | .hbm, ⟨22, _⟩ => ⟨S2048x6144, .f32⟩
  | .hbm, ⟨23, _⟩ => ⟨S8192x6144, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x6144, .f32⟩
  | .hbm, ⟨31, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel4.lean ====
abbrev S8192x2048 : Shape := ⟨2, ![8192, 2048]⟩
abbrev S2x2048x2048 : Shape := ⟨3, ![2, 2048, 2048]⟩
abbrev S_ : Shape := ⟨0, ![]⟩
abbrev S2048 : Shape := ⟨1, ![2048]⟩
abbrev S1x2048 : Shape := ⟨2, ![1, 2048]⟩
abbrev S4 : Shape := ⟨1, ![4]⟩
abbrev S2048x2048 : Shape := ⟨2, ![2048, 2048]⟩
abbrev S1x2048x512 : Shape := ⟨3, ![1, 2048, 512]⟩
abbrev S1x512 : Shape := ⟨2, ![1, 512]⟩
abbrev S2048x512 : Shape := ⟨2, ![2048, 512]⟩
abbrev S1x2048x256 : Shape := ⟨3, ![1, 2048, 256]⟩
abbrev S2048x256 : Shape := ⟨2, ![2048, 256]⟩

abbrev nBuf : Space → Nat
  | .hbm => 11
  | .vmem => 11
  | .smem => 1
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S_, .f32⟩
  | .hbm, ⟨4, _⟩ => ⟨S2048, .f32⟩
  | .hbm, ⟨5, _⟩ => ⟨S1x2048, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S_, .i32⟩
  | .hbm, ⟨10, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .smem, ⟨0, _⟩ => ⟨S4, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v5 : Ref sig .tc := ⟨.hbm, 10, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2x2x4x256x2048 : Shape := ⟨5, ![2, 2, 4, 256, 2048]⟩
abbrev S2x3x128 : Shape := ⟨3, ![2, 3, 128]⟩
abbrev S2x2x32x128 : Shape := ⟨4, ![2, 2, 32, 128]⟩
abbrev S2x2x4096x128 : Shape := ⟨4, ![2, 2, 4096, 128]⟩
abbrev S2x2x128x128 : Shape := ⟨4, ![2, 2, 128, 128]⟩
abbrev S1x3x128 : Shape := ⟨3, ![1, 3, 128]⟩
abbrev S3x128 : Shape := ⟨2, ![3, 128]⟩
abbrev S1x2x32x128 : Shape := ⟨4, ![1, 2, 32, 128]⟩
abbrev S2x32x128 : Shape := ⟨3, ![2, 32, 128]⟩
abbrev S1x2x4096x128 : Shape := ⟨4, ![1, 2, 4096, 128]⟩
abbrev S2x4096x128 : Shape := ⟨3, ![2, 4096, 128]⟩
abbrev S1x2x128x128 : Shape := ⟨4, ![1, 2, 128, 128]⟩
abbrev S2x128x128 : Shape := ⟨3, ![2, 128, 128]⟩
abbrev S2x2x1x2048 : Shape := ⟨4, ![2, 2, 1, 2048]⟩
abbrev S1x128 : Shape := ⟨2, ![1, 128]⟩
abbrev S128 : Shape := ⟨1, ![128]⟩
abbrev S2x2x4x256x128 : Shape := ⟨5, ![2, 2, 4, 256, 128]⟩
abbrev S1x1x1x256x2048 : Shape := ⟨5, ![1, 1, 1, 256, 2048]⟩
abbrev S1x2x1x2048 : Shape := ⟨4, ![1, 2, 1, 2048]⟩
abbrev S1x4096x128 : Shape := ⟨3, ![1, 4096, 128]⟩
abbrev S1x128x128 : Shape := ⟨3, ![1, 128, 128]⟩
abbrev S1x1x1x256x128 : Shape := ⟨5, ![1, 1, 1, 256, 128]⟩
abbrev S256x2048 : Shape := ⟨2, ![256, 2048]⟩
abbrev S1x1x1x2048 : Shape := ⟨4, ![1, 1, 1, 2048]⟩
abbrev S1x2048 : Shape := ⟨2, ![1, 2048]⟩
abbrev S1x2048x128 : Shape := ⟨3, ![1, 2048, 128]⟩
abbrev S2048x128 : Shape := ⟨2, ![2048, 128]⟩
abbrev S256x128 : Shape := ⟨2, ![256, 128]⟩
abbrev S128x128 : Shape := ⟨2, ![128, 128]⟩
abbrev S256 : Shape := ⟨1, ![256]⟩
abbrev S256x1 : Shape := ⟨2, ![256, 1]⟩

abbrev nBuf : Space → Nat
  | .hbm => 20
  | .vmem => 11
  | .smem => 0
  | _ => 0

abbrev bufTy : (tb : Table) → Fin (tcTables nBuf tb) → BufTy
  | .hbm, ⟨0, _⟩ => ⟨S2x2x4x256x2048, .bf16⟩
  | .hbm, ⟨1, _⟩ => ⟨S2x3x128, .f32⟩
  | .hbm, ⟨2, _⟩ => ⟨S2x2x32x128, .f32⟩
  | .hbm, ⟨3, _⟩ => ⟨S2x2x4096x128, .f32⟩
  | .hbm, ⟨4, _⟩ => ⟨S2x2x128x128, .f32⟩
  | .hbm, ⟨5, _⟩ => ⟨S1x3x128, .f32⟩
  | .hbm, ⟨6, _⟩ => ⟨S3x128, .f32⟩
  | .hbm, ⟨7, _⟩ => ⟨S1x2x32x128, .f32⟩
  | .hbm, ⟨8, _⟩ => ⟨S2x32x128, .f32⟩
  | .hbm, ⟨9, _⟩ => ⟨S1x2x4096x128, .f32⟩
  | .hbm, ⟨10, _⟩ => ⟨S2x4096x128, .f32⟩
  | .hbm, ⟨11, _⟩ => ⟨S1x2x128x128, .f32⟩
  | .hbm, ⟨12, _⟩ => ⟨S2x128x128, .f32⟩
  | .hbm, ⟨13, _⟩ => ⟨S2x2x1x2048, .f32⟩
  | .hbm, ⟨14, _⟩ => ⟨S2x4096x128, .bf16⟩
  | .hbm, ⟨15, _⟩ => ⟨S2x128x128, .bf16⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S2x2x4x256x128, .bf16⟩
  | .local _ .vmem, ⟨0, _⟩ => ⟨S1x1x1x256x2048, .bf16⟩
  | .local _ .vmem, ⟨1, _⟩ => ⟨S1x1x1x256x2048, .bf16⟩
  | .local _ .vmem, ⟨2, _⟩ => ⟨S1x2x1x2048, .f32⟩
  | .local _ .vmem, ⟨3, _⟩ => ⟨S1x2x1x2048, .f32⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128, .f32⟩
  | .local _ .vmem, ⟨9, _⟩ => ⟨S1x1x1x256x128, .bf16⟩
  | .local _ .vmem, ⟨10, _⟩ => ⟨S1x1x1x256x128, .bf16⟩
  | _, _ => ⟨S2x2x4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_25 : BitVec 32 := 0#32
  let v40 : BitVec 1 := Scalar.cmpi .ne v39 c0_i32_25
  v40

def k0_cond2 (i : grid0.Coords) : BitVec 1 :=
  let arg0 : BitVec 32 := BitVec.ofNat 32 (i 0).val
  let c0_i32_26 : BitVec 32 := 0#32
  let v41 : BitVec 1 := Scalar.cmpi .ne arg0 c0_i32_26
  let v42 : BitVec 32 := Scalar.extui v41
  let c0_i32_27 : BitVec 32 := 0#32
  let v43 : BitVec 1 := Scalar.cmpi .ne v42 c0_i32_27
  v43

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S2x2x4x256x2048 : Shape := ⟨5, ![2, 2, 4, 256, 2048]⟩
abbrev S2x3x128 : Shape := ⟨3, ![2, 3, 128]⟩
abbrev S2x2x32x128 : Shape := ⟨4, ![2, 2, 32, 128]⟩
abbrev S2x2x4096x128 : Shape := ⟨4, ![2, 2, 4096, 128]⟩
abbrev S2x2x128x128 : Shape := ⟨4, ![2, 2, 128, 128]⟩
abbrev S2x2x4x255x2048 : Shape := ⟨5, ![2, 2, 4, 255, 2048]⟩
abbrev S2x2x4x1x2048 : Shape := ⟨5, ![2, 2, 4, 1, 2048]⟩
abbrev S2x2x4x256x4096 : Shape := ⟨5, ![2, 2, 4, 256, 4096]⟩
abbrev S1x2x4x256x4096 : Shape := ⟨5, ![1, 2, 4, 256, 4096]⟩
abbrev S2x4x256x4096 : Shape := ⟨4, ![2, 4, 256, 4096]⟩
abbrev S1x1x32x128 : Shape := ⟨4, ![1, 1, 32, 128]⟩
abbrev S32x128 : Shape := ⟨2, ![32, 128]⟩
abbrev S1x1x4096x128 : Shape := ⟨4, ![1, 1, 4096, 128]⟩
abbrev S4096x128 : Shape := ⟨2, ![4096, 128]⟩
abbrev S1x1x128x128 : Shape := ⟨4, ![1, 1, 128, 128]⟩
abbrev S128x128 : Shape := ⟨2, ![128, 128]⟩
abbrev S4096 : Shape := ⟨1, ![4096]⟩
abbrev S1x1x1x4096 : Shape := ⟨4, ![1, 1, 1, 4096]⟩
abbrev S2x4x256x128 : Shape := ⟨4, ![2, 4, 256, 128]⟩
abbrev S_ : Shape := ⟨0, ![]⟩
abbrev S2x4x256 : Shape := ⟨3, ![2, 4, 256]⟩
abbrev S2x4x256x1 : Shape := ⟨4, ![2, 4, 256, 1]⟩
abbrev S1x1x128 : Shape := ⟨3, ![1, 1, 128]⟩
abbrev S128 : Shape := ⟨1, ![128]⟩
abbrev S1x1x1x128 : Shape := ⟨4, ![1, 1, 1, 128]⟩
abbrev S1x2x4x256x128 : Shape := ⟨5, ![1, 2, 4, 256, 128]⟩
abbrev S2x2x4x256x128 : Shape := ⟨5, ![2, 2, 4, 256, 128]⟩

abbrev nBuf : Space → Nat
  | .hbm => 94
  | .vmem => 0
  | .smem => 0
  | _ => 0

abbrev bufTy : (tb : Table) → Fin (tcTables nBuf tb) → BufTy
  | .hbm, ⟨0, _⟩ => ⟨S2x2x4x256x2048, .bf16⟩
  | .hbm, ⟨1, _⟩ => ⟨S2x3x128, .f32⟩
  | .hbm, ⟨2, _⟩ => ⟨S2x2x32x128, .f32⟩
  | .hbm, ⟨3, _⟩ => ⟨S2x2x4096x128, .f32⟩
  | .hbm, ⟨4, _⟩ => ⟨S2x2x128x128, .f32⟩
  | .hbm, ⟨5, _⟩ => ⟨S2x2x4x256x2048, .f32⟩
  | .hbm, ⟨6, _⟩ => ⟨S2x2x4x255x2048, .f32⟩
  | .hbm, ⟨7, _⟩ => ⟨S2x2x4x1x2048, .f32⟩
  | .hbm, ⟨8, _⟩ => ⟨S2x2x4x256x2048, .f32⟩
  | .hbm, ⟨9, _⟩ => ⟨S2x2x4x256x4096, .f32⟩
  | .hbm, ⟨10, _⟩ => ⟨S1x2x4x256x4096, .f32⟩
  | .hbm, ⟨11, _⟩ => ⟨S2x4x256x4096, .f32⟩
  | .hbm, ⟨12, _⟩ => ⟨S1x1x32x128, .f32⟩
  | .hbm, ⟨13, _⟩ => ⟨S32x128, .f32⟩
  | .hbm, ⟨14, _⟩ => ⟨S1x1x4096x128, .f32⟩
  | .hbm, ⟨15, _⟩ => ⟨S4096x128, .f32⟩
  | .hbm, ⟨16, _⟩ => ⟨S1x1x128x128, .f32⟩
  | .hbm, ⟨17, _⟩ => ⟨S128x128, .f32⟩
  | .hbm, ⟨18, _⟩ => ⟨S4096, .f32⟩
  | .hbm, ⟨19, _⟩ => ⟨S1x1x1x4096, .f32⟩
  | .hbm, ⟨20, _⟩ => ⟨S2x4x256x4096, .f32⟩
  | .hbm, ⟨21, _⟩ => ⟨S2x4x256x4096, .f32⟩
  | .hbm, ⟨22, _⟩ => ⟨S2x4x256x128, .f32⟩
  | .hbm, ⟨23, _⟩ => ⟨S2x4x256x128, .f32⟩
  | .hbm, ⟨24, _⟩ => ⟨S2x4x256x128, .f32⟩
  | .hbm, ⟨25, _⟩ => ⟨S_, .f32⟩
  | .hbm, ⟨26, _⟩ => ⟨S2x4x256x128, .f32⟩
  | .hbm, ⟨27, _⟩ => ⟨S2x4x256x128, .f32⟩
  | .hbm, ⟨28, _⟩ => ⟨S2x4x256x128, .f32⟩
  | .hbm, ⟨29, _⟩ => ⟨S_, .f32⟩
  | .hbm, ⟨30, _⟩ => ⟨S2x4x256x128, .f32⟩
  | .hbm, ⟨31, _⟩ => ⟨S2x4x256x128, .f32⟩
  | .hbm, ⟨32, _⟩ => ⟨S2x4x256x128, .f32⟩
  | .hbm, ⟨33, _⟩ => ⟨S_, .f32⟩
  | .hbm, ⟨34, _⟩ => ⟨S2x4x256x128, .f32⟩
  | .hbm, ⟨35, _⟩ => ⟨S2x4x256x128, .f32⟩
  | .hbm, ⟨36, _⟩ => ⟨S_, .f32⟩
  | .hbm, ⟨37, _⟩ => ⟨S2x4x256x128, .f32⟩
  | .hbm, ⟨38, _⟩ => ⟨S2x4x256x128, .f32⟩
  | .hbm, ⟨39, _⟩ => ⟨S2x4x256x128, .f32⟩
  | .hbm, ⟨40, _⟩ => ⟨S2x4x256x128, .f32⟩
  | .hbm, ⟨41, _⟩ => ⟨S1x2x4x256x4096, .f32⟩
  | .hbm, ⟨42, _⟩ => ⟨S2x4x256x4096, .f32⟩
  | .hbm, ⟨43, _⟩ => ⟨S1x1x32x128, .f32⟩
  | .hbm, ⟨44, _⟩ => ⟨S32x128, .f32⟩
  | .hbm, ⟨45, _⟩ => ⟨S1x1x4096x128, .f32⟩
  | .hbm, ⟨46, _⟩ => ⟨S4096x128, .f32⟩
  | .hbm, ⟨47, _⟩ => ⟨S1x1x128x128, .f32⟩
  | .hbm, ⟨48, _⟩ => ⟨S128x128, .f32⟩
  | .hbm, ⟨49, _⟩ => ⟨S4096, .f32⟩
  | .hbm, ⟨50, _⟩ => ⟨S1x1x1x4096, .f32⟩
  | .hbm, ⟨51, _⟩ => ⟨S2x4x256x4096, .f32⟩
  | .hbm, ⟨52, _⟩ => ⟨S2x4x256x4096, .f32⟩
  | .hbm, ⟨53, _⟩ => ⟨S2x4x256x128, .f32⟩
  | .hbm, ⟨54, _⟩ => ⟨S2x4x256x128, .f32⟩
  | .hbm, ⟨55, _⟩ => ⟨S2x4x256x128, .f32⟩
  | .hbm, ⟨56, _⟩ => ⟨S_, .f32⟩
  | .hbm, ⟨57, _⟩ => ⟨S2x4x256x128, .f32⟩
  | .hbm, ⟨58, _⟩ => ⟨S2x4x256x128, .f32⟩
  | .hbm, ⟨59, _⟩ => ⟨S2x4x256x128, .f32⟩
  | .hbm, ⟨60, _⟩ => ⟨S_, .f32⟩
  | .hbm, ⟨61, _⟩ => ⟨S2x4x256x128, .f32⟩
  | .hbm, ⟨62, _⟩ => ⟨S2x4x256x128, .f32⟩
  | .hbm, ⟨63, _⟩ => ⟨S2x4x256x128, .f32⟩
  | .hbm, ⟨64, _⟩ => ⟨S_, .f32⟩
  | .hbm, ⟨65, _⟩ => ⟨S2x4x256x128, .f32⟩
  | .hbm, ⟨66, _⟩ => ⟨S2x4x256x128, .f32⟩
  | .hbm, ⟨67, _⟩ => ⟨S_, .f32⟩
  | .hbm, ⟨68, _⟩ => ⟨S2x4x256x128, .f32⟩
  | .hbm, ⟨69, _⟩ => ⟨S2x4x256x128, .f32⟩
  | .hbm, ⟨70, _⟩ => ⟨S2x4x256x128, .f32⟩
  | .hbm, ⟨71, _⟩ => ⟨S2x4x256x128, .f32⟩
  | .hbm, ⟨72, _⟩ => ⟨S2x4x256x128, .f32⟩
  | .hbm, ⟨73, _⟩ => ⟨S_, .f32⟩
  | .hbm, ⟨74, _⟩ => ⟨S2x4x256, .f32⟩
  | .hbm, ⟨75, _⟩ => ⟨S2x4x256x1, .f32⟩
  | .hbm, ⟨76, _⟩ => ⟨S_, .f32⟩
  | .hbm, ⟨77, _⟩ => ⟨S2x4x256x1, .f32⟩
  | .hbm, ⟨78, _⟩ => ⟨S2x4x256x1, .f32⟩
  | .hbm, ⟨79, _⟩ => ⟨S_, .f32⟩
  | .hbm, ⟨80, _⟩ => ⟨S2x4x256x1, .f32⟩
  | .hbm, ⟨81, _⟩ => ⟨S2x4x256x1, .f32⟩
  | .hbm, ⟨82, _⟩ => ⟨S2x4x256x1, .f32⟩
  | .hbm, ⟨83, _⟩ => ⟨S2x4x256x128, .f32⟩
  | .hbm, ⟨84, _⟩ => ⟨S2x4x256x128, .f32⟩
  | .hbm, ⟨85, _⟩ => ⟨S1x1x128, .f32⟩
  | .hbm, ⟨86, _⟩ => ⟨S128, .f32⟩
  | .hbm, ⟨87, _⟩ => ⟨S1x1x1x128, .f32⟩
  | .hbm, ⟨88, _⟩ => ⟨S2x4x256x128, .f32⟩
  | .hbm, ⟨89, _⟩ => ⟨S2x4x256x128, .f32⟩
  | .hbm, ⟨90, _⟩ => ⟨S1x2x4x256x128, .f32⟩
  | .hbm, ⟨91, _⟩ => ⟨S1x2x4x256x128, .f32⟩
  | .hbm, ⟨92, _⟩ => ⟨S2x2x4x256x128, .f32⟩
  | .hbm, ⟨93, _⟩ => ⟨S2x2x4x256x128, .bf16⟩
  | _, _ => ⟨S2x2x4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Proof.Mlp.lean ====
/- The feed-forward call: what the kernel accumulates over its hidden tiles is the reference's `h + relu(y @ w1)² @ w2`. -/
module

public import proofs.«01_k».proof.Defs
public import proofs.«01_k».proof.Proof.Gen.Kernel2Ideal.Value
public import Idealize.ShloMosaic.Lib.Pipeline.ReadBack
public import proofs.«01_k».proof.Proof.Gen.Reference2Ideal.Run
public import Idealize.ShloMosaic.Lib.Pipeline.ValueKit
public import Idealize.ShloMosaic.Lib.WordCmp

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

variable (m : (ℓ : Loc nD τ sig) → Buf (Elt Ideal) ℓ)

/-! ## The mathematics -/

/-- A row divided by its root mean square (the mean plus 1e-6), times the gain. -/
def normed (X : FVec Ideal S8192x2048 .f32) (G : FVec Ideal S4x2048 .f32) (R : Fin 8192) (k : Fin 2048) : EReal :=
  X (ix2 R k) * Ideal.rsqrt (Ideal.div (∑ l : Fin 2048, X (ix2 R l) * X (ix2 R l)) (Ideal.ofBits FTy.f32 0x45000000#32)
    + Ideal.ofBits FTy.f32 0x358637BD#32) * G (ix2 0 k)

/-- A hidden unit: the positive part of the normalized row's product with the unit's column. -/
def hidden (X : FVec Ideal S8192x2048 .f32) (G : FVec Ideal S4x2048 .f32) (W1 : FVec Ideal S4x2048x8192 .f32) (R : Fin 8192) (f : Fin 8192) :
    EReal :=
  max (∑ k : Fin 2048, normed X G R k * W1 (ix3 0 k f)) 0

/-- What one hidden unit adds to an entry of the result. -/
def term (X : FVec Ideal S8192x2048 .f32) (G : FVec Ideal S4x2048 .f32) (W1 : FVec Ideal S4x2048x8192 .f32)
    (W2 : FVec Ideal S4x8192x2048 .f32) (R : Fin 8192) (d : Fin 2048) (f : Fin 8192) : EReal :=
  hidden X G W1 R f * hidden X G W1 R f * W2 (ix3 0 f d)

/-- The layer's result, entry by entry. -/
def result (X : FVec Ideal S8192x2048 .f32) (G : FVec Ideal S4x2048 .f32) (W1 : FVec Ideal S4x2048x8192 .f32)
    (W2 : FVec Ideal S4x8192x2048 .f32) : FVec Ideal S8192x2048 .f32 :=
  fun i => X (ix2 (i 0) (i 1)) + ∑ f : Fin 8192, term X G W1 W2 (i 0) (i 1) f

/-- The part of the sum that hidden tile `s` holds. -/
def part (f : Fin 8192 → EReal) (s : ℕ) : EReal := ∑ e : Fin 512, if h : s * 512 + e.val < 8192 then f ⟨s * 512 + e.val, h⟩ else 0

theorem parts (f : Fin 8192 → EReal) : ∑ s ∈ Finset.range 16, part f s = ∑ l : Fin 8192, f l := by
  rw [Finset.sum_range]
  exact Fin.sum_mul_add_congr fun s k hl => dif_pos hl

/-! ## The kernel's two payloads -/

theorem norm_at (x : Vec Ideal S1024x2048 .f32) (g : Vec Ideal S1x2048 .f32) (r : Fin 1024) (k : Fin 2048) :
    k0_pay1 (F := Ideal) x g (ix2 r k)
      = x (ix2 r k) * Ideal.rsqrt (Ideal.div (∑ l : Fin 2048, x (ix2 r l) * x (ix2 r l)) (Ideal.ofBits FTy.f32 0x45000000#32)
        + Ideal.ofBits FTy.f32 0x358637BD#32) * g (ix2 0 k) := by
  pointwise [k0_pay1]

theorem step_at (xn : Vec Ideal S1024x2048 .bf16) (w1 : Vec Ideal S1x2048x512 .f32) (acc : Vec Ideal S1024x2048 .f32)
    (w2 : Vec Ideal S1x512x2048 .f32) (r : Fin 1024) (d : Fin 2048) :
    k0_pay2 (F := Ideal) xn w1 acc w2 (ix2 r d)
      = acc (ix2 r d) + ∑ e : Fin 512, max (∑ k : Fin 2048, xn (ix2 r k) * w1 (ix3 0 k e)) 0
        * max (∑ k : Fin 2048, xn (ix2 r k) * w1 (ix3 0 k e)) 0 * w2 (ix3 0 e d) := by
  pointwise [k0_pay2]

/-! ## What a grid point leaves -/

theorem outA (c : Dev nD) (t : Fin cfg0.N) (h : t.val % 16 = 0) :
    outsAt0 m c t.val t.isLt = (k0_pay2 (F := Ideal) (k0_pay1 (iblk m c 0 t) (iblk m c 1 t)) (iblk m c 2 t) (iblk m c 0 t) (iblk m c 3 t),
      k0_pay1 (iblk m c 0 t) (iblk m c 1 t)) := by
  rw [outsAt0_A m c t h]
  frame_out

theorem outB (c : Dev nD) (t : Fin cfg0.N) (h : ¬ t.val % 16 = 0) :
    outsAt0 m c t.val t.isLt
      = (k0_pay2 (F := Ideal) (outsAt0 m c (t.val - 1) (Nat.lt_of_le_of_lt (Nat.sub_le _ _) t.isLt)).2 (iblk m c 2 t)
          (outsAt0 m c (t.val - 1) (Nat.lt_of_le_of_lt (Nat.sub_le _ _) t.isLt)).1 (iblk m c 3 t),
        (outsAt0 m c (t.val - 1) (Nat.lt_of_le_of_lt (Nat.sub_le _ _) t.isLt)).2) := by
  rw [outsAt0_B m c t h]
  frame_out
  rw [read_unread_whole]
  rfl

/-! ## The blocks the windows stage -/

theorem idx : ∀ t : Fin cfg0.N, win0_0.index t = ![t.val / 16, 0] ∧ win0_1.index t = ![0, 0] ∧ win0_2.index t = ![0, 0, t.val % 16]
    ∧ win0_3.index t = ![0, t.val % 16, 0] ∧ win0_4.index t = ![t.val / 16, 0] :=
  (by decide +kernel : ∀ t : Fin grid0.N, _)

theorem lt128 (t : Fin cfg0.N) : t.val < 128 := lt_of_lt_of_eq t.isLt N_0

/-- The array's row that row `r` of a block is at position `n`. -/
abbrev row (n : ℕ) (hn : n < cfg0.N) (r : Fin 1024) : Fin 8192 :=
  ⟨n / 16 * 1024 + r.val, by have := lt128 ⟨n, hn⟩; simp only at this; omega⟩

theorem x_at (c : Dev nD) (t : Fin cfg0.N) (r : Fin 1024) (k : Fin 2048) :
    iblk m c 0 t (ix2 r k) = m ((c : Thread nD τ).loc main_arg0) (ix2 (row t.val t.isLt r) k) := by
  blk_ext [iblk, V_main_arg0, idx t]

theorem w1_at (c : Dev nD) (t : Fin cfg0.N) (k : Fin 2048) (e : Fin 512) :
    iblk m c 2 t (ix3 0 k e) = m ((c : Thread nD τ).loc main_arg2) (ix3 0 k ⟨t.val % 16 * 512 + e.val, by omega⟩) := by
  blk_ext [iblk, V_main_arg2, idx t]

theorem w2_at (c : Dev nD) (t : Fin cfg0.N) (e : Fin 512) (d : Fin 2048) :
    iblk m c 3 t (ix3 0 e d) = m ((c : Thread nD τ).loc main_arg3) (ix3 0 ⟨t.val % 16 * 512 + e.val, by omega⟩ d) := by
  blk_ext [iblk, V_main_arg3, idx t]

theorem g_at (c : Dev nD) (t : Fin cfg0.N) (k : Fin 2048) :
    iblk m c 1 t (ix2 0 k) = m ((c : Thread nD τ).loc main_arg1) (ix2 0 k) := by
  have e : iblk m c 1 t (ix2 0 k) = V m c main_v2 (ix2 0 k) := by blk_ext [iblk, idx t]
  rw [e]
  entry_read
  pointwise

/-! ## The accumulation -/

section
variable (c : Dev nD) (X : FVec Ideal S8192x2048 .f32) (G : FVec Ideal S4x2048 .f32) (W1 : FVec Ideal S4x2048x8192 .f32)
  (W2 : FVec Ideal S4x8192x2048 .f32)
  (hX : m ((c : Thread nD τ).loc main_arg0) = X) (hG : m ((c : Thread nD τ).loc main_arg1) = G)
  (hW1 : m ((c : Thread nD τ).loc main_arg2) = W1) (hW2 : m ((c : Thread nD τ).loc main_arg3) = W2)
include hX hG

theorem norm_block (t : Fin cfg0.N) (r : Fin 1024) (k : Fin 2048) :
    k0_pay1 (F := Ideal) (iblk m c 0 t) (iblk m c 1 t) (ix2 r k) = normed X G (row t.val t.isLt r) k := by
  rw [norm_at, g_at, normed, hG]
  simp only [x_at, hX]

/-- After every point the scratch holds the normalized rows of the point's block. -/
theorem scratch (n : ℕ) (hn : n < cfg0.N) (r : Fin 1024) (k : Fin 2048) :
    (outsAt0 m c n hn).2 (ix2 r k) = normed X G (row n hn r) k := by
  induction n with
  | zero => rw [outA m c ⟨0, hn⟩ rfl]; exact norm_block m c X G hX hG ⟨0, hn⟩ r k
  | succ n ih =>
    by_cases h : (n + 1) % 16 = 0
    · rw [outA m c ⟨n + 1, hn⟩ h]; exact norm_block m c X G hX hG ⟨n + 1, hn⟩ r k
    · rw [outB m c ⟨n + 1, hn⟩ h]
      refine (ih (by omega)).trans ?_
      exact congrArg (fun R => normed X G R k) (Fin.ext (show n / 16 * 1024 + r.val = (n + 1) / 16 * 1024 + r.val by omega))

include hW1 hW2

/-- One point adds its tile's part. -/
theorem tile (t : Fin cfg0.N) (xn : Vec Ideal S1024x2048 .bf16) (acc : Vec Ideal S1024x2048 .f32) (r : Fin 1024) (d : Fin 2048)
    (hxn : ∀ k, xn (ix2 r k) = normed X G (row t.val t.isLt r) k) :
    k0_pay2 (F := Ideal) xn (iblk m c 2 t) acc (iblk m c 3 t) (ix2 r d)
      = acc (ix2 r d) + part (term X G W1 W2 (row t.val t.isLt r) d) (t.val % 16) := by
  rw [step_at, part]
  refine congrArg _ (Finset.sum_congr rfl fun e _ => ?_)
  rw [dif_pos (by omega : t.val % 16 * 512 + e.val < 8192), term, hidden]
  simp only [hxn, w1_at, w2_at, hW1, hW2]

/-- After every point the block holds its rows and the parts of the tiles so far. -/
theorem accumulated (n : ℕ) (hn : n < cfg0.N) (r : Fin 1024) (d : Fin 2048) :
    (outsAt0 m c n hn).1 (ix2 r d)
      = X (ix2 (row n hn r) d) + ∑ s ∈ Finset.range (n % 16 + 1), part (term X G W1 W2 (row n hn r) d) s := by
  have first (t : Fin cfg0.N) (h : t.val % 16 = 0) : (outsAt0 m c t.val t.isLt).1 (ix2 r d)
      = X (ix2 (row t.val t.isLt r) d) + ∑ s ∈ Finset.range (t.val % 16 + 1), part (term X G W1 W2 (row t.val t.isLt r) d) s := by
    rw [outA m c t h, h, Finset.sum_range_one]
    refine (tile m c X G W1 W2 hX hG hW1 hW2 t _ _ r d fun k => norm_block m c X G hX hG t r k).trans ?_
    rw [h, x_at, hX]
  induction n with
  | zero => exact first ⟨0, hn⟩ rfl
  | succ n ih =>
    by_cases h : (n + 1) % 16 = 0
    · exact first ⟨n + 1, hn⟩ h
    · have hr : row n (by omega) r = row (n + 1) hn r := Fin.ext (show n / 16 * 1024 + r.val = (n + 1) / 16 * 1024 + r.val by omega)
      rw [outB m c ⟨n + 1, hn⟩ h]
      refine (tile m c X G W1 W2 hX hG hW1 hW2 ⟨n + 1, hn⟩ _ _ r d fun k => ?_).trans ?_
      · rw [← hr]; exact scratch m c X G hX hG n (by omega) r k
      · rw [show (outsAt0 m c ((⟨n + 1, hn⟩ : Fin cfg0.N).val - 1) (Nat.lt_of_le_of_lt (Nat.sub_le _ _) hn)).1 (ix2 r d) = _
          from ih (by omega), hr, add_assoc, show n % 16 + 1 = (n + 1) % 16 by omega, ← Finset.sum_range_succ]

/-- The kernel's array is the layer's result. -/
theorem final : (dats m 0 c).arrAt 4 cfg0.N = result X G W1 W2 := by
  refine (dats m 0 c).arrAt_eq_of_covers 4 _ (by decide +kernel) fun t hf y => ?_
  blk_simp
  rw [after0_4]
  have h15 : t.val % 16 = 15 := (flush0_4 t).mp hf
  obtain ⟨r, d, rfl⟩ : ∃ (r : Fin 1024) (d : Fin 2048), y = ix2 r d := ⟨y 0, y 1, by funext a; match a with | ⟨0, _⟩ => rfl | ⟨1, _⟩ => rfl⟩
  have e : (win0_4.blk t).view.emb (ix2 r d) = ix2 (row t.val t.isLt r) d := by
    funext a
    match a with
    | ⟨0, _⟩ => exact Fin.ext (by blk_simp [idx t])
    | ⟨1, _⟩ => exact Fin.ext (by blk_simp [idx t])
  rw [e]
  refine (accumulated m c X G W1 W2 hX hG hW1 hW2 t.val t.isLt r d).trans ?_
  rw [h15, parts]
  rfl

end

/-- The kernel and the reference compute one array. -/
theorem agrees : Cert.algebraic_Kernel2Ideal_Reference2Ideal := fun m g m' g' _ hargs => by
  refine ⟨fun c => result (m ((c : Thread nD τ).loc main_arg0)) (m ((c : Thread nD τ).loc main_arg1)) (m ((c : Thread nD τ).loc main_arg2))
      (m ((c : Thread nD τ).loc main_arg3)),
    (θ_run _ _ _).mono (fun r h c => ⟨(h c).1.trans (final m c _ _ _ _ rfl rfl rfl rfl), (h c).2⟩) (Cert.Kernel2Ideal.Value.run_blocks m g),
    (θ_run _ _ _).mono (fun r h c => ⟨(h c).1.trans ?_, (h c).2⟩) (Cert.Reference2Ideal.Value.run (F := Ideal) m' g')⟩
  obtain ⟨h0, h1, h2, h3⟩ := hargs c
  rw [h0, h1, h2, h3]
  funext i
  obtain ⟨R, d, rfl⟩ : ∃ (R : Fin 8192) (d : Fin 2048), i = ix2 R d := ⟨i 0, i 1, by funext a; match a with | ⟨0, _⟩ => rfl | ⟨1, _⟩ => rfl⟩
  pointwise [result, term, hidden, normed]

end Cert.Kernel2Ideal.Mlp

end
-- ==== Proof.Qkv.lean ====
/- The projection to queries, keys and values: the kernel's tiles of the normalized rows' product, times the column gains, are the
   reference's. -/
module

public import proofs.«01_k».proof.Defs
public import proofs.«01_k».proof.Proof.Gen.Kernel3Ideal.Frame
public import proofs.«01_k».proof.Proof.Gen.Reference3Ideal.Run
public import Idealize.ShloMosaic.Lib.Pipeline.Covers
public import Idealize.ShloMosaic.Lib.Pipeline.ReadBack
public import Idealize.ShloMosaic.Lib.Pipeline.ValueKit
public import Idealize.ShloMosaic.Lib.WordCmp

@[expose] public section

set_option maxRecDepth 16384

noncomputable section

namespace Cert.Kernel3Ideal.Qkv

open Cert.Kernel3Ideal Cert.Kernel3Ideal.Gen Idealize.ShloMosaic Idealize.ShloMosaic.TcCoe Idealize.SL.Sem

variable (m : (ℓ : Loc nD τ sig) → Buf (Elt Ideal) ℓ) (hO : Ok m)

/-! ## The mathematics -/

/-- A row divided by its root mean square (the mean plus 1e-6), times the gain. -/
def normed (X : FVec Ideal S8192x2048 .f32) (G : FVec Ideal S2x2048 .f32) (R : Fin 8192) (k : Fin 2048) : EReal :=
  X (ix2 R k) * Ideal.rsqrt (Ideal.div (∑ l : Fin 2048, X (ix2 R l) * X (ix2 R l)) (Ideal.ofBits FTy.f32 0x45000000#32)
    + Ideal.ofBits FTy.f32 0x358637BD#32) * G (ix2 0 k)

/-- The factor of a column: the queries' for the first 2048, one for the keys' and values'. -/
def gain (C : Fin 6144) : EReal := if C.val < 2048 then Ideal.ofBits FTy.f32 0x3E0293EE#32 else 1

/-- The projection's result, entry by entry. -/
def result (X : FVec Ideal S8192x2048 .f32) (G : FVec Ideal S2x2048 .f32) (W : FVec Ideal S2x2048x6144 .f32) : FVec Ideal S8192x6144 .bf16 :=
  fun i => (∑ k : Fin 2048, normed X G (i 0) k * W (ix3 0 k (i 1))) * gain (i 1)

/-! ## The blocks the windows stage -/

theorem idx : ∀ t : Fin (cfgM m hO).N, ((cfgM m hO).win 0).index t = ![t.val / 6, 0] ∧ ((cfgM m hO).win 1).index t = ![0, 0]
    ∧ ((cfgM m hO).win 2).index t = ![0, 0, t.val % 6]
    ∧ ((cfgM m hO).win 3).index t = ![0, t.val % 6] ∧ ((cfgM m hO).win 4).index t = ![t.val / 6, t.val % 6] :=
  (by decide +kernel : ∀ t : Fin grid0.N, cc0_transform_0 (grid0.coords t) = ![t.val / 6, 0] ∧ cc0_transform_1 (grid0.coords t) = ![0, 0]
    ∧ cc0_transform_2 (grid0.coords t) = ![0, 0, t.val % 6]
    ∧ cc0_transform_3 (grid0.coords t) = ![0, t.val % 6] ∧ cc0_transform_4 (grid0.coords t) = ![t.val / 6, t.val % 6])

theorem lt48 {n : ℕ} (hn : n < (cfgM m hO).N) : n < 48 := lt_of_lt_of_eq hn N_0

/-- The array's row and column of an entry of the block at position `n`. -/
abbrev row (n : ℕ) (hn : n < (cfgM m hO).N) (r : Fin 1024) : Fin 8192 := ⟨n / 6 * 1024 + r.val, by have := lt48 m hO hn; omega⟩
abbrev col (n : ℕ) (d : Fin 1024) : Fin 6144 := ⟨n % 6 * 1024 + d.val, by omega⟩

theorem x_at (c : Dev nD) (t : Fin (cfgM m hO).N) (r : Fin 1024) (k : Fin 2048) :
    iblk m hO c 0 t (ix2 r k) = m ((c : Thread nD τ).loc main_arg0) (ix2 (row m hO t.val t.isLt r) k) := by
  blk_ext [iblk, V_main_arg0, idx m hO t]

theorem w_at (c : Dev nD) (t : Fin (cfgM m hO).N) (k : Fin 2048) (d : Fin 1024) :
    iblk m hO c 2 t (ix3 0 k d) = m ((c : Thread nD τ).loc main_arg2) (ix3 0 k (col t.val d)) := by
  blk_ext [iblk, V_main_arg2, idx m hO t]

theorem g_at (c : Dev nD) (t : Fin (cfgM m hO).N) (k : Fin 2048) :
    iblk m hO c 1 t (ix2 0 k) = m ((c : Thread nD τ).loc main_arg1) (ix2 0 k) := by
  have e : iblk m hO c 1 t (ix2 0 k) = V m c main_v5 (ix2 0 k) := by blk_ext [iblk, idx m hO t]
  rw [e]
  entry_read
  pointwise

theorem gain_at (c : Dev nD) (t : Fin (cfgM m hO).N) (d : Fin 1024) :
    iblk m hO c 3 t (ix2 0 d) = gain (col t.val d) := by
  have e : iblk m hO c 3 t (ix2 0 d) = V m c main_v6 (ix2 0 (col t.val d)) := by blk_ext [iblk, idx m hO t]
  rw [e]
  entry_read
  pointwise [gain]
  split_ifs <;> rfl

theorem reached : ∀ (a : Fin 8) (b : Fin 6), ∃ t : Fin grid0.N, cc0_transform_4 (grid0.coords t) = ![a.val, b.val] := by decide +kernel

/-- The blocks written back are the whole array. -/
theorem covers : ((cfgM m hO).win 4).Covers :=
  ((cfgM m hO).win 4).covers_of_indexMap_surj rfl (by decide : ∀ a : Fin 2, 0 < S1024x1024.size a) fun β => by
    have h0 : (β (0 : Fin 2)).val < 8 := lt_of_lt_of_eq (β (0 : Fin 2)).isLt (by decide : (8192 + 1024 - 1) / 1024 = 8)
    have h1 : (β (1 : Fin 2)).val < 6 := lt_of_lt_of_eq (β (1 : Fin 2)).isLt (by decide : (6144 + 1024 - 1) / 1024 = 6)
    obtain ⟨t, ht⟩ := reached ⟨_, h0⟩ ⟨_, h1⟩
    exact ⟨grid0.coords t, fun | ⟨0, _⟩ => congrFun ht (0 : Fin 2) | ⟨1, _⟩ => congrFun ht (1 : Fin 2)⟩

theorem split (y : S1024x1024.Idx) : ∃ r d : Fin 1024, y = ix2 r d :=
  ⟨y 0, y 1, by funext a; match a with | ⟨0, _⟩ => rfl | ⟨1, _⟩ => rfl⟩

/-! ## What a grid point leaves -/

theorem norm_at (x : Vec Ideal S1024x2048 .f32) (g : Vec Ideal S1x2048 .f32) (r : Fin 1024) (k : Fin 2048) :
    k0_pay3 (F := Ideal) x g (ix2 r k)
      = x (ix2 r k) * Ideal.rsqrt (Ideal.div (∑ l : Fin 2048, x (ix2 r l) * x (ix2 r l)) (Ideal.ofBits FTy.f32 0x45000000#32)
        + Ideal.ofBits FTy.f32 0x358637BD#32) * g (ix2 0 k) := by
  pointwise [k0_pay3]

/-- At the first tile of a row block: the product of the rows normalized there, and those rows. -/
theorem pointA (c : Dev nD) (t : Fin (cfgM m hO).N) (h0 : t.val % 6 = 0) (X : Vec Ideal S1024x2048 .f32) (G : Vec Ideal S1x2048 .f32)
    (W : Vec Ideal S1x2048x1024 .f32) (E : Vec Ideal S1x1024 .f32)
    (hX : iblk m hO c 0 t = X) (hG : iblk m hO c 1 t = G) (hW : iblk m hO c 2 t = W) (hE : iblk m hO c 3 t = E) :
    (∀ y : S1024x1024.Idx, (outsAt0 m hO c t.val t.isLt).1 y
      = (∑ k : Fin 2048, k0_pay3 (F := Ideal) X G (ix2 (y 0) k) * W (ix3 0 k (y 1))) * E (ix2 0 (y 1)))
    ∧ (outsAt0 m hO c t.val t.isLt).2 = k0_pay3 X G := by
  rw [outsAt0_A m hO c t h0]
  refine ⟨fun y => ?_, ?_⟩
  · frame_out
    rw [hX, hG, hW, hE]
    simp only [Memref.IsWhole.read_unread]
    generalize k0_pay3 X G = N
    canon_tiles x h
    all_goals
      pointwise [k0_pay1, k0_pay2, k0_pay4, k0_pay5, k0_pay6]
      blk_point []
  · frame_out
    rw [hX, hG, Memref.IsWhole.read_unread, Memref.IsWhole.read_unread]

/-- At the other tiles: the product of the rows kept from before, and those rows. -/
theorem pointB (c : Dev nD) (t : Fin (cfgM m hO).N) (h0 : ¬ t.val % 6 = 0) (N : Vec Ideal S1024x2048 .bf16)
    (W : Vec Ideal S1x2048x1024 .f32) (E : Vec Ideal S1x1024 .f32)
    (hN : (outsAt0 m hO c (t.val - 1) (Nat.lt_of_le_of_lt (Nat.sub_le _ _) t.isLt)).2 = N)
    (hW : iblk m hO c 2 t = W) (hE : iblk m hO c 3 t = E) :
    (∀ y : S1024x1024.Idx, (outsAt0 m hO c t.val t.isLt).1 y
      = (∑ k : Fin 2048, N (ix2 (y 0) k) * W (ix3 0 k (y 1))) * E (ix2 0 (y 1)))
    ∧ (outsAt0 m hO c t.val t.isLt).2 = N := by
  rw [outsAt0_B m hO c t h0]
  refine ⟨fun y => ?_, ?_⟩
  · frame_out
    rw [hN, hW, hE]
    simp only [Memref.IsWhole.read_unread, read_unread_whole]
    canon_tiles x h
    all_goals
      pointwise [k0_pay1, k0_pay2, k0_pay4, k0_pay5, k0_pay6]
      blk_point []
  · exact hN

section
variable (c : Dev nD) (X : FVec Ideal S8192x2048 .f32) (G : FVec Ideal S2x2048 .f32) (W : FVec Ideal S2x2048x6144 .f32)
  (hX : m ((c : Thread nD τ).loc main_arg0) = X) (hG : m ((c : Thread nD τ).loc main_arg1) = G)
  (hW : m ((c : Thread nD τ).loc main_arg2) = W)
include hX hG

theorem norm_block (t : Fin (cfgM m hO).N) (x : Vec Ideal S1024x2048 .f32) (g : Vec Ideal S1x2048 .f32)
    (hx : iblk m hO c 0 t = x) (hg : iblk m hO c 1 t = g) (r : Fin 1024) (k : Fin 2048) :
    k0_pay3 (F := Ideal) x g (ix2 r k) = normed X G (row m hO t.val t.isLt r) k := by
  have ex (l : Fin 2048) : x (ix2 r l) = X (ix2 (row m hO t.val t.isLt r) l) := by rw [← hx, ← hX]; exact x_at m hO c t r l
  have eg : g (ix2 0 k) = G (ix2 0 k) := by rw [← hg, ← hG]; exact g_at m hO c t k
  rw [norm_at, eg, normed]
  simp only [ex]

/-- After every point the scratch holds the normalized rows of the point's block. -/
theorem scratch (n : ℕ) (hn : n < (cfgM m hO).N) (r : Fin 1024) (k : Fin 2048) :
    (outsAt0 m hO c n hn).2 (ix2 r k) = normed X G (row m hO n hn r) k := by
  induction n with
  | zero => rw [(pointA m hO c ⟨0, hn⟩ rfl _ _ _ _ rfl rfl rfl rfl).2]; exact norm_block m hO c X G hX hG ⟨0, hn⟩ _ _ rfl rfl r k
  | succ n ih =>
    by_cases h : (n + 1) % 6 = 0
    · rw [(pointA m hO c ⟨n + 1, hn⟩ h _ _ _ _ rfl rfl rfl rfl).2]; exact norm_block m hO c X G hX hG ⟨n + 1, hn⟩ _ _ rfl rfl r k
    · rw [(pointB m hO c ⟨n + 1, hn⟩ h _ _ _ rfl rfl rfl).2]
      refine (ih (by omega)).trans ?_
      exact congrArg (fun R => normed X G R k) (Fin.ext (show n / 6 * 1024 + r.val = (n + 1) / 6 * 1024 + r.val by omega))

include hW

/-- A product of normalized rows with a point's tile is the result there. -/
theorem entry (t : Fin (cfgM m hO).N) (N : Vec Ideal S1024x2048 .bf16) (r d : Fin 1024)
    (hN : ∀ k, N (ix2 r k) = normed X G (row m hO t.val t.isLt r) k) (B : Vec Ideal S1x2048x1024 .f32) (E : Vec Ideal S1x1024 .f32)
    (hB : iblk m hO c 2 t = B) (hE : iblk m hO c 3 t = E) :
    (∑ k : Fin 2048, N (ix2 r k) * B (ix3 0 k d)) * E (ix2 0 d) = result X G W (ix2 (row m hO t.val t.isLt r) (col t.val d)) := by
  subst hW hB hE
  refine congrArg₂ (fun a b : EReal => a * b) (Finset.sum_congr rfl fun k _ => ?_) (gain_at m hO c t d)
  exact congrArg₂ (fun a b : EReal => a * b) (hN k) (w_at m hO c t k d)

/-- The kernel's array is the projection. -/
theorem final : (dats m hO 0 c).arrAt 4 (cfgM m hO).N = result X G W := by
  refine (dats m hO 0 c).arrAt_eq_of_covers 4 _ (covers m hO) fun t hf y => ?_
  blk_simp
  rw [after0_4]
  obtain ⟨r, d, rfl⟩ := split y
  have e : (((cfgM m hO).win 4).blk t).view.emb (ix2 r d) = ix2 (row m hO t.val t.isLt r) (col t.val d) := by
    funext a
    match a with
    | ⟨0, _⟩ => exact Fin.ext (by blk_simp [idx m hO t])
    | ⟨1, _⟩ => exact Fin.ext (by blk_simp [idx m hO t])
  refine Eq.trans ?_ (congrArg (result X G W) e).symm
  by_cases h : t.val % 6 = 0
  · refine ((pointA m hO c t h _ _ _ _ rfl rfl rfl rfl).1 (ix2 r d)).trans ?_
    exact entry m hO c X G W hX hG hW t _ r d (fun k => norm_block m hO c X G hX hG t _ _ rfl rfl r k) _ _ rfl rfl
  · refine ((pointB m hO c t h _ _ _ rfl rfl rfl).1 (ix2 r d)).trans ?_
    refine entry m hO c X G W hX hG hW t _ r d (fun k => (scratch m hO c X G hX hG _ _ r k).trans ?_) _ _ rfl rfl
    exact congrArg (fun R => normed X G R k) (Fin.ext (show (t.val - 1) / 6 * 1024 + r.val = t.val / 6 * 1024 + r.val by omega))

end

/-- The kernel runs to its array, with its arguments as launched. -/
theorem run (g : Dev nD → PrngReg) : θ_run defs (onTc (τ := τ) (main (F := Ideal))) ⟨m, fun _ => 0, g⟩ fun r => ∀ c : Dev nD,
      r.2.mem ((c : Thread nD τ).loc main_v8) = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 4).trans (final m trivial c _ _ _ rfl rfl rfl), h.2 c⟩)
    (θ_run_and (run_main m g trivial) (unchanged m g trivial))

/-- The kernel and the reference compute one array. -/
theorem agrees : Cert.algebraic_Kernel3Ideal_Reference3Ideal := fun m g m' g' _ hargs => by
  refine ⟨fun c => result (m ((c : Thread nD τ).loc main_arg0)) (m ((c : Thread nD τ).loc main_arg1)) (m ((c : Thread nD τ).loc main_arg2)),
    run m g,
    (θ_run _ _ _).mono (fun r h c => ⟨(h c).1.trans ?_, (h c).2⟩) (Cert.Reference3Ideal.Value.run (F := Ideal) m' g')⟩
  obtain ⟨h0, h1, h2⟩ := hargs c
  rw [h0, h1, h2]
  funext i
  obtain ⟨R, d, rfl⟩ : ∃ (R : Fin 8192) (d : Fin 6144), i = ix2 R d := ⟨i 0, i 1, by funext a; match a with | ⟨0, _⟩ => rfl | ⟨1, _⟩ => rfl⟩
  pointwise [result, gain, normed]
  have e1 (h : ¬ d.val < 2048) (p) : (⟨2048 + (d.val - 2048), p⟩ : Fin 6144) = d := Fin.ext (by show 2048 + (d.val - 2048) = d.val; omega)
  have e2 (h : ¬ d.val < 2048) (h' : ¬ d.val - 2048 < 2048) (p) : (⟨4096 + (d.val - 2048 - 2048), p⟩ : Fin 6144) = d :=
    Fin.ext (by show 4096 + (d.val - 2048 - 2048) = d.val; omega)
  by_cases h : d.val < 2048
  · rw [dif_pos h]
    exact congrArg (HMul.hMul (α := EReal) _) (if_pos h).symm
  · rw [dif_neg h]
    by_cases h' : d.val - 2048 < 2048
    · simp only [dif_pos h', e1 h]
      exact (mul_one (M := EReal) _).symm.trans (congrArg (HMul.hMul (α := EReal) _) (if_neg h).symm)
    · simp only [dif_neg h', e2 h h']
      exact (mul_one (M := EReal) _).symm.trans (congrArg (HMul.hMul (α := EReal) _) (if_neg h).symm)

end Cert.Kernel3Ideal.Qkv

end
-- ==== Proof.OutProj.lean ====
/- The output projection of an attention: the kernel's tiles of the product, added to the residual, are the reference's. -/
module

public import proofs.«01_k».proof.Defs
public import proofs.«01_k».proof.Proof.Gen.Kernel4Ideal.Frame
public import proofs.«01_k».proof.Proof.Gen.Reference4Ideal.Run
public import Idealize.ShloMosaic.Lib.Pipeline.Covers
public import Idealize.ShloMosaic.Lib.Pipeline.ValueKit
public import Idealize.ShloMosaic.Lib.WordCmp

@[expose] public section

set_option maxRecDepth 16384

noncomputable section

namespace Cert.Kernel4Ideal.OutProj

open Cert.Kernel4Ideal Cert.Kernel4Ideal.Gen Idealize.ShloMosaic Idealize.ShloMosaic.TcCoe Idealize.SL.Sem

variable (m : (ℓ : Loc nD τ sig) → Buf (Elt Ideal) ℓ) (hO : Ok m)

/-- The projection's result, entry by entry. -/
def result (O : FVec Ideal S8192x2048 .bf16) (W : FVec Ideal S2x2048x2048 .f32) (H : FVec Ideal S8192x2048 .f32) :
    FVec Ideal S8192x2048 .f32 :=
  fun i => (∑ k : Fin 2048, O (ix2 (i 0) k) * W (ix3 0 k (i 1))) + H (ix2 (i 0) (i 1))

/-! ## The blocks the windows stage -/

theorem idx : ∀ t : Fin (cfgM m hO).N, ((cfgM m hO).win 0).index t = ![t.val / 4, 0] ∧ ((cfgM m hO).win 2).index t = ![0, 0, t.val % 4]
    ∧ ((cfgM m hO).win 4).index t = ![t.val / 4, t.val % 4] ∧ ((cfgM m hO).win 5).index t = ![t.val / 4, t.val % 4] :=
  (by decide +kernel : ∀ t : Fin grid0.N, cc0_transform_0 (grid0.coords t) = ![t.val / 4, 0] ∧ cc0_transform_2 (grid0.coords t) = ![0, 0, t.val % 4]
    ∧ cc0_transform_4 (grid0.coords t) = ![t.val / 4, t.val % 4] ∧ cc0_transform_5 (grid0.coords t) = ![t.val / 4, t.val % 4])

theorem lt16 (t : Fin (cfgM m hO).N) : t.val < 16 := lt_of_lt_of_eq t.isLt N_0

/-- The array's row and column of an entry of a block. -/
abbrev row (t : Fin (cfgM m hO).N) (r : Fin 2048) : Fin 8192 := ⟨t.val / 4 * 2048 + r.val, by have := lt16 m hO t; omega⟩
abbrev col (t : Fin (cfgM m hO).N) (d : Fin 512) : Fin 2048 := ⟨t.val % 4 * 512 + d.val, by omega⟩

theorem o_at (c : Dev nD) (t : Fin (cfgM m hO).N) (r : Fin 2048) (k : Fin 2048) :
    iblk m hO c 0 t (ix2 r k) = m ((c : Thread nD τ).loc main_arg0) (ix2 (row m hO t r) k) := by
  blk_ext [iblk, V_main_arg0, idx m hO t]

theorem w_at (c : Dev nD) (t : Fin (cfgM m hO).N) (k : Fin 2048) (d : Fin 512) :
    iblk m hO c 2 t (ix3 0 k d) = m ((c : Thread nD τ).loc main_arg1) (ix3 0 k (col m hO t d)) := by
  blk_ext [iblk, V_main_arg1, idx m hO t]

theorem h_at (c : Dev nD) (t : Fin (cfgM m hO).N) (r : Fin 2048) (d : Fin 512) :
    iblk m hO c 4 t (ix2 r d) = m ((c : Thread nD τ).loc main_arg2) (ix2 (row m hO t r) (col m hO t d)) := by
  blk_ext [iblk, V_main_arg2, idx m hO t]

theorem reached : ∀ a b : Fin 4, ∃ t : Fin grid0.N, cc0_transform_5 (grid0.coords t) = ![a.val, b.val] := by decide +kernel

/-- The blocks written back are the whole array. -/
theorem covers : ((cfgM m hO).win 5).Covers :=
  ((cfgM m hO).win 5).covers_of_indexMap_surj rfl (by decide : ∀ a : Fin 2, 0 < S2048x512.size a) fun β => by
    have h0 : (β (0 : Fin 2)).val < 4 := lt_of_lt_of_eq (β (0 : Fin 2)).isLt (by decide : (8192 + 2048 - 1) / 2048 = 4)
    have h1 : (β (1 : Fin 2)).val < 4 := lt_of_lt_of_eq (β (1 : Fin 2)).isLt (by decide : (2048 + 512 - 1) / 512 = 4)
    obtain ⟨t, ht⟩ := reached ⟨_, h0⟩ ⟨_, h1⟩
    exact ⟨grid0.coords t, fun | ⟨0, _⟩ => congrFun ht (0 : Fin 2) | ⟨1, _⟩ => congrFun ht (1 : Fin 2)⟩

theorem split (y : S2048x512.Idx) : ∃ (r : Fin 2048) (d : Fin 512), y = ix2 r d :=
  ⟨y 0, y 1, by funext a; match a with | ⟨0, _⟩ => rfl | ⟨1, _⟩ => rfl⟩

/-- What a grid point leaves in its block. -/
theorem point (c : Dev nD) (t : Fin (cfgM m hO).N) (O : Vec Ideal S2048x2048 .bf16) (W : Vec Ideal S1x2048x512 .f32) (H : Vec Ideal S2048x512 .f32)
    (hOt : iblk m hO c 0 t = O) (hW : iblk m hO c 2 t = W) (hH : iblk m hO c 4 t = H) (y : S2048x512.Idx) :
    outsAt0 m hO c t y = (∑ k : Fin 2048, O (ix2 (y 0) k) * W (ix3 0 k (y 1))) + H (ix2 (y 0) (y 1)) := by
  unfold outsAt0
  frame_out
  rw [hOt, hW, hH]
  canon_tiles x h
  all_goals
    rw [Memref.IsWhole.read_unread, Memref.IsWhole.read_unread, Memref.IsWhole.read_unread]
    pointwise [k0_pay1, k0_pay2]
    blk_point []

section
variable (c : Dev nD) (O : FVec Ideal S8192x2048 .bf16) (W : FVec Ideal S2x2048x2048 .f32) (H : FVec Ideal S8192x2048 .f32)
  (hO' : m ((c : Thread nD τ).loc main_arg0) = O) (hW : m ((c : Thread nD τ).loc main_arg1) = W)
  (hH : m ((c : Thread nD τ).loc main_arg2) = H)
include hO' hW hH

/-- The kernel's array is the projection. -/
theorem final : (dats m hO 0 c).arrAt 5 (cfgM m hO).N = result O W H := by
  refine (dats m hO 0 c).arrAt_eq_of_covers 5 _ (covers m hO) fun t hf y => ?_
  blk_simp
  rw [after0_5]
  obtain ⟨r, d, rfl⟩ := split y
  have e : (((cfgM m hO).win 5).blk t).view.emb (ix2 r d) = ix2 (row m hO t r) (col m hO t d) := by
    funext a
    match a with
    | ⟨0, _⟩ => exact Fin.ext (by blk_simp [idx m hO t])
    | ⟨1, _⟩ => exact Fin.ext (by blk_simp [idx m hO t])
  refine (point m hO c t _ _ _ rfl rfl rfl (ix2 r d)).trans ?_
  refine Eq.trans ?_ (congrArg (result O W H) e).symm
  subst hO' hW hH
  refine congrArg₂ (fun a b : EReal => a + b) (Finset.sum_congr rfl fun k _ => ?_) (h_at m hO c t r d)
  exact congrArg₂ (fun a b : EReal => a * b) (o_at m hO c t r k) (w_at m hO c t k d)

end

/-- The kernel runs to its array, with its arguments as launched. -/
theorem run (g : Dev nD → PrngReg) : θ_run defs (onTc (τ := τ) (main (F := Ideal))) ⟨m, fun _ => 0, g⟩ fun r => ∀ c : Dev nD,
      r.2.mem ((c : Thread nD τ).loc main_v5) = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 5).trans (final m trivial c _ _ _ rfl rfl rfl), h.2 c⟩)
    (θ_run_and (run_main m g trivial) (unchanged m g trivial))

/-- The kernel and the reference compute one array. -/
theorem agrees : Cert.algebraic_Kernel4Ideal_Reference4Ideal := fun m g m' g' _ hargs => by
  refine ⟨fun c => result (m ((c : Thread nD τ).loc main_arg0)) (m ((c : Thread nD τ).loc main_arg1)) (m ((c : Thread nD τ).loc main_arg2)),
    run m g,
    (θ_run _ _ _).mono (fun r h c => ⟨(h c).1.trans ?_, (h c).2⟩) (Cert.Reference4Ideal.Value.run (F := Ideal) m' g')⟩
  obtain ⟨h0, h1, h2⟩ := hargs c
  rw [h0, h1, h2]
  funext i
  obtain ⟨R, d, rfl⟩ : ∃ (R : Fin 8192) (d : Fin 2048), i = ix2 R d := ⟨i 0, i 1, by funext a; match a with | ⟨0, _⟩ => rfl | ⟨1, _⟩ => rfl⟩
  refine Eq.trans ?_ (add_comm _ _)
  pointwise [result]

end Cert.Kernel4Ideal.OutProj

end
-- ==== Proof.CompressRef.lean ====
/- The reference's block compression, read entry by entry: whole blocks of two chunks, their product, the gelu, the second product, and
   the keys' normalization. -/
module

public import proofs.«01_k».proof.Defs
public import proofs.«01_k».proof.Proof.Gen.Reference5Ideal.Run
public import Idealize.ShloMosaic.Lib.Pipeline.ValueKit
public import Idealize.ShloMosaic.Lib.WordCmp

@[expose] public section

set_option maxRecDepth 16384

noncomputable section

namespace Cert.Reference5Ideal.Read

open Cert.Reference5Ideal Cert.Reference5Ideal.Gen Cert.Reference5Ideal.Value Idealize.ShloMosaic Idealize.ShloMosaic.TcCoe

/-! ## The mathematics -/

/-- The gelu, in its form with the hyperbolic tangent. -/
def gelu (z : EReal) : EReal :=
  z * (Ideal.ofBits FTy.f32 0x3F000000#32 * (Ideal.ofBits FTy.f32 0x3F800000#32
    + Ideal.tanh (Ideal.ofBits FTy.f32 0x3F4C422A#32 * (z + Ideal.ofBits FTy.f32 0x3D372713#32 * (z * z * z)))))

/-- The chunk after a chunk (after the last one, the first). -/
abbrev next (r : Fin 256) : Fin 256 := ⟨(r.val + 1) % 256, Nat.mod_lt _ (by norm_num)⟩

section
variable (X : FVec Ideal S2x2x4x256x2048 .bf16) (K : FVec Ideal S2x3x128 .f32) (P : FVec Ideal S2x2x32x128 .f32)
  (W1 : FVec Ideal S2x2x4096x128 .f32) (W2 : FVec Ideal S2x2x128x128 .f32)

/-- Half `s` of a block (chunk `r`, with its positions' encoding) times that half of the first weights, for hidden unit `h`. -/
def half (w b : Fin 2) (g : Fin 4) (s : Fin 2) (r : Fin 256) (h : Fin 128) : EReal :=
  ∑ k : Fin 2048, (X (ix5 w b g r k) + P (ix4 0 w ⟨s.val * 16 + k.val / 128, by omega⟩ ⟨k.val % 128, by omega⟩))
    * W1 (ix4 0 w ⟨s.val * 2048 + k.val, by omega⟩ h)

/-- A block compressed: the keys' (`w = 0`) before their normalization. -/
def compressed (w b : Fin 2) (g : Fin 4) (r : Fin 256) (d : Fin 128) : EReal :=
  ∑ h : Fin 128, gelu (half X P W1 w b g 0 r h + half X P W1 w b g 1 (next r) h) * W2 (ix4 0 w h d)

/-- The keys' compressed block divided by its root mean square (the mean plus 1e-6), times the gain. -/
def key (b : Fin 2) (g : Fin 4) (r : Fin 256) (d : Fin 128) : EReal :=
  compressed X P W1 W2 0 b g r d * Ideal.rsqrt (Ideal.div
    (∑ l : Fin 128, compressed X P W1 W2 0 b g r l * compressed X P W1 W2 0 b g r l) (Ideal.ofBits FTy.f32 0x43000000#32)
      + Ideal.ofBits FTy.f32 0x358637BD#32) * K (ix3 0 0 d)

/-- The call's result, entry by entry. -/
def result : FVec Ideal S2x2x4x256x128 .bf16 := fun i =>
  if (i 0).val < 1 then key X K P W1 W2 (i 1) (i 2) (i 3) (i 4) else compressed X P W1 W2 1 (i 1) (i 2) (i 3) (i 4)

theorem result_at (w b : Fin 2) (g : Fin 4) (r : Fin 256) (d : Fin 128) : result X K P W1 W2 (ix5 w b g r d)
    = if w.val < 1 then key X K P W1 W2 b g r d else compressed X P W1 W2 1 b g r d := rfl

end

/-! ## The stages -/

/-- The blocks: each chunk and the next. -/
def blocks (X : FVec Ideal S2x2x4x256x2048 .bf16) : FVec Ideal S2x2x4x256x4096 .f32 :=
  concatenate S2x2x4x256x4096 4 [⟨S2x2x4x256x2048, (extf .f32 X bitsLt_bf16_f32)⟩, ⟨S2x2x4x256x2048, (concatenate S2x2x4x256x2048 3 [⟨S2x2x4x255x2048, (extractStridedSlice S2x2x4x255x2048 ![0, 0, 0, 1, 0] (extf .f32 X bitsLt_bf16_f32) slices_S2x2x4x256x2048_S2x2x4x255x2048_0_0_0_1_0)⟩, ⟨S2x2x4x1x2048, (extractStridedSlice S2x2x4x1x2048 ![0, 0, 0, 0, 0] (extf .f32 X bitsLt_bf16_f32) slices_S2x2x4x256x2048_S2x2x4x1x2048_0_0_0_0_0)⟩] concatenates_S2x2x4x255x2048_S2x2x4x1x2048_S2x2x4x256x2048_d3)⟩] concatenates_S2x2x4x256x2048_S2x2x4x256x2048_S2x2x4x256x4096_d4

/-- The blocks, with their positions' encoding, times the first weights. -/
def product (x : FVec Ideal S1x2x4x256x4096 .f32) (p : FVec Ideal S1x1x32x128 .f32) (w : FVec Ideal S1x1x4096x128 .f32) :
    FVec Ideal S2x4x256x128 .f32 :=
  Host.dotGeneral dot_S2x4x256x4096_S4096x128_S2x4x256x128_3_0_012_1_n_n none
    (addf (shapeCast _ x shapeCasts_S1x2x4x256x4096_S2x4x256x4096)
      (broadcastInDim S2x4x256x4096 ![0, 1, 2, 3] bcast_S1x1x1x4096_S2x4x256x4096_0_1_2_3
        (broadcastInDim S1x1x1x4096 ![3] bcast_S4096_S1x1x1x4096_3
          (shapeCast _ (shapeCast _ p shapeCasts_S1x1x32x128_S32x128) shapeCasts_S32x128_S4096))))
    (shapeCast _ w shapeCasts_S1x1x4096x128_S4096x128)

/-- The gelu of the first product, times the second weights. -/
def second (z : FVec Ideal S2x4x256x128 .f32) (w : FVec Ideal S1x1x128x128 .f32) : FVec Ideal S2x4x256x128 .f32 :=
  Host.dotGeneral dot_S2x4x256x128_S128x128_S2x4x256x128_3_0_012_1_n_n none
    (mulf z (mulf (broadcastInDim S2x4x256x128 ![] bcast_S_S2x4x256x128 (constant S_ .f32 0x3F000000#32))
      (addf (broadcastInDim S2x4x256x128 ![] bcast_S_S2x4x256x128 (constant S_ .f32 0x3F800000#32))
        (Host.tanh (mulf (broadcastInDim S2x4x256x128 ![] bcast_S_S2x4x256x128 (constant S_ .f32 0x3F4C422A#32))
          (addf z (mulf (broadcastInDim S2x4x256x128 ![] bcast_S_S2x4x256x128 (constant S_ .f32 0x3D372713#32)) (mulf (mulf z z) z))))))))
    (shapeCast _ w shapeCasts_S1x1x128x128_S128x128)

/-- The keys' blocks normalized, beside the values' blocks. -/
def joined (k v : FVec Ideal S2x4x256x128 .f32) (K : FVec Ideal S2x3x128 .f32) : FVec Ideal S2x2x4x256x128 .bf16 :=
  truncf .bf16 (concatenate S2x2x4x256x128 0 [⟨S1x2x4x256x128, (broadcastInDim S1x2x4x256x128 ![1, 2, 3, 4] bcast_S2x4x256x128_S1x2x4x256x128_1_2_3_4 (mulf (mulf k (broadcastInDim S2x4x256x128 ![0, 1, 2, 3] bcast_S2x4x256x1_S2x4x256x128_0_1_2_3 (Host.rsqrt (addf (Host.divf (broadcastInDim S2x4x256x1 ![0, 1, 2] bcast_S2x4x256_S2x4x256x1_0_1_2 (Host.reduceAdd (mulf k k) (constant S_ .f32 0x00000000#32) reducesTo_S2x4x256x128_S2x4x256_d3 h_S_)) (broadcastInDim S2x4x256x1 ![] bcast_S_S2x4x256x1 (constant S_ .f32 0x43000000#32))) (broadcastInDim S2x4x256x1 ![] bcast_S_S2x4x256x1 (constant S_ .f32 0x358637BD#32)))))) (broadcastInDim S2x4x256x128 ![0, 1, 2, 3] bcast_S1x1x1x128_S2x4x256x128_0_1_2_3 (broadcastInDim S1x1x1x128 ![3] bcast_S128_S1x1x1x128_3 (shapeCast _ (extractStridedSlice S1x1x128 ![0, 0, 0] K slices_S2x3x128_S1x1x128_0_0_0) shapeCasts_S1x1x128_S128)))))⟩, ⟨S1x2x4x256x128, (broadcastInDim S1x2x4x256x128 ![1, 2, 3, 4] bcast_S2x4x256x128_S1x2x4x256x128_1_2_3_4 v)⟩] concatenates_S1x2x4x256x128_S1x2x4x256x128_S2x2x4x256x128_d0) bitsLt_bf16_f32

/-- The keys' blocks, and the values', compressed. -/
def keys (X : FVec Ideal S2x2x4x256x2048 .bf16) (P : FVec Ideal S2x2x32x128 .f32) (W1 : FVec Ideal S2x2x4096x128 .f32)
    (W2 : FVec Ideal S2x2x128x128 .f32) : FVec Ideal S2x4x256x128 .f32 :=
  second (product (extractStridedSlice S1x2x4x256x4096 ![0, 0, 0, 0, 0] (blocks X) slices_S2x2x4x256x4096_S1x2x4x256x4096_0_0_0_0_0)
      (extractStridedSlice S1x1x32x128 ![0, 0, 0, 0] P slices_S2x2x32x128_S1x1x32x128_0_0_0_0)
      (extractStridedSlice S1x1x4096x128 ![0, 0, 0, 0] W1 slices_S2x2x4096x128_S1x1x4096x128_0_0_0_0))
    (extractStridedSlice S1x1x128x128 ![0, 0, 0, 0] W2 slices_S2x2x128x128_S1x1x128x128_0_0_0_0)
def values (X : FVec Ideal S2x2x4x256x2048 .bf16) (P : FVec Ideal S2x2x32x128 .f32) (W1 : FVec Ideal S2x2x4096x128 .f32)
    (W2 : FVec Ideal S2x2x128x128 .f32) : FVec Ideal S2x4x256x128 .f32 :=
  second (product (extractStridedSlice S1x2x4x256x4096 ![1, 0, 0, 0, 0] (blocks X) slices_S2x2x4x256x4096_S1x2x4x256x4096_1_0_0_0_0)
      (extractStridedSlice S1x1x32x128 ![0, 1, 0, 0] P slices_S2x2x32x128_S1x1x32x128_0_1_0_0)
      (extractStridedSlice S1x1x4096x128 ![0, 1, 0, 0] W1 slices_S2x2x4096x128_S1x1x4096x128_0_1_0_0))
    (extractStridedSlice S1x1x128x128 ![0, 1, 0, 0] W2 slices_S2x2x128x128_S1x1x128x128_0_1_0_0)

variable (m : (ℓ : Loc nD τ sig) → Buf (Elt Ideal) ℓ)

set_option maxHeartbeats 4000000 in
theorem res_eq (c : Dev nD) : res_main_v75 m c
    = joined (keys (m ((c : Thread nD τ).loc main_arg0)) (m ((c : Thread nD τ).loc main_arg2)) (m ((c : Thread nD τ).loc main_arg3)) (m ((c : Thread nD τ).loc main_arg4)))
        (values (m ((c : Thread nD τ).loc main_arg0)) (m ((c : Thread nD τ).loc main_arg2)) (m ((c : Thread nD τ).loc main_arg3)) (m ((c : Thread nD τ).loc main_arg4)))
        (m ((c : Thread nD τ).loc main_arg1)) := by
  unfold res_main_v75 joined keys values second product blocks
  rfl

/-! ## The stages, entry by entry -/

theorem blocks_at (X : FVec Ideal S2x2x4x256x2048 .bf16) (w b : Fin 2) (g : Fin 4) (r : Fin 256) (k : Fin 4096) :
    blocks X (ix5 w b g r k) = if h : k.val < 2048 then X (ix5 w b g r ⟨k.val, h⟩) else X (ix5 w b g (next r) ⟨k.val - 2048, by omega⟩) := by
  pointwise [blocks]
  by_cases h : k.val < 2048
  · rw [dif_pos h, dif_pos h]
  · rw [dif_neg h, dif_neg h]
    by_cases h' : r.val < 255
    · rw [dif_pos h']
      exact congrArg (fun s => X (ix5 w b g s ⟨k.val - 2048, by omega⟩)) (Fin.ext (show 1 + r.val = (r.val + 1) % 256 by omega))
    · rw [dif_neg h']
      exact congrArg (fun s => X (ix5 w b g s ⟨k.val - 2048, by omega⟩)) (Fin.ext (show r.val - 255 = (r.val + 1) % 256 by omega))

theorem product_at (x : FVec Ideal S1x2x4x256x4096 .f32) (p : FVec Ideal S1x1x32x128 .f32) (w : FVec Ideal S1x1x4096x128 .f32)
    (b : Fin 2) (g : Fin 4) (r : Fin 256) (h : Fin 128) :
    product x p w (ix4 b g r h)
      = ∑ k : Fin 4096, (x (ix5 0 b g r k) + p (ix4 0 0 ⟨k.val / 128, by omega⟩ ⟨k.val % 128, by omega⟩)) * w (ix4 0 0 k h) := by
  pointwise [product]

theorem second_at (z : FVec Ideal S2x4x256x128 .f32) (w : FVec Ideal S1x1x128x128 .f32) (b : Fin 2) (g : Fin 4) (r : Fin 256) (d : Fin 128) :
    second z w (ix4 b g r d) = ∑ h : Fin 128, gelu (z (ix4 b g r h)) * w (ix4 0 0 h d) := by
  pointwise [second, gelu]

theorem joined_at (k v : FVec Ideal S2x4x256x128 .f32) (K : FVec Ideal S2x3x128 .f32) (w b : Fin 2) (g : Fin 4) (r : Fin 256) (d : Fin 128) :
    joined k v K (ix5 w b g r d) = if w.val < 1 then k (ix4 b g r d) * Ideal.rsqrt (Ideal.div
        (∑ l : Fin 128, k (ix4 b g r l) * k (ix4 b g r l)) (Ideal.ofBits FTy.f32 0x43000000#32)
          + Ideal.ofBits FTy.f32 0x358637BD#32) * K (ix3 0 0 d)
      else v (ix4 b g r d) := by
  pointwise [joined]
  rfl

/-- A block's product is the products of its two halves. -/
theorem halves (f : Fin 4096 → EReal) :
    ∑ k : Fin 4096, f k = (∑ k : Fin 2048, f ⟨0 * 2048 + k.val, by omega⟩) + ∑ k : Fin 2048, f ⟨1 * 2048 + k.val, by omega⟩ := by
  refine (Fin.sum_univ_add (a := 2048) (b := 2048) f).trans (congrArg₂ (fun a b : EReal => a + b) ?_ ?_) <;>
    exact Finset.sum_congr rfl fun k _ => congrArg f (Fin.ext (by simp [Nat.add_comm]))

/-- The first product over whole blocks, in its two halves. -/
theorem halved (X : FVec Ideal S2x2x4x256x2048 .bf16) (P : FVec Ideal S2x2x32x128 .f32) (W1 : FVec Ideal S2x2x4096x128 .f32)
    (w b : Fin 2) (g : Fin 4) (r : Fin 256) (h : Fin 128) :
    ∑ k : Fin 4096, (blocks X (ix5 w b g r k) + P (ix4 0 w ⟨k.val / 128, by omega⟩ ⟨k.val % 128, by omega⟩)) * W1 (ix4 0 w k h)
      = half X P W1 w b g 0 r h + half X P W1 w b g 1 (next r) h := by
  rw [halves]
  refine congrArg₂ (fun a b : EReal => a + b) (Finset.sum_congr rfl fun k _ => ?_) (Finset.sum_congr rfl fun k _ => ?_)
  · rw [blocks_at, dif_pos (by show 0 * 2048 + k.val < 2048; omega)]
    refine congrArg₂ (fun a b : EReal => a * b) (congrArg₂ (fun a b : EReal => a + b) ?_ ?_) rfl
    · exact congrArg (fun l => X (ix5 w b g r l)) (Fin.ext (show 0 * 2048 + k.val = k.val by omega))
    · exact congrArg₂ (fun i j => P (ix4 0 w i j)) (Fin.ext (show (0 * 2048 + k.val) / 128 = 0 * 16 + k.val / 128 by omega))
        (Fin.ext (show (0 * 2048 + k.val) % 128 = k.val % 128 by omega))
  · rw [blocks_at, dif_neg (by show ¬ 1 * 2048 + k.val < 2048; omega)]
    refine congrArg₂ (fun a b : EReal => a * b) (congrArg₂ (fun a b : EReal => a + b) ?_ ?_) rfl
    · exact congrArg (fun l => X (ix5 w b g (next r) l)) (Fin.ext (show 1 * 2048 + k.val - 2048 = k.val by omega))
    · exact congrArg₂ (fun i j => P (ix4 0 w i j)) (Fin.ext (show (1 * 2048 + k.val) / 128 = 1 * 16 + k.val / 128 by omega))
        (Fin.ext (show (1 * 2048 + k.val) % 128 = k.val % 128 by omega))

section
variable (X : FVec Ideal S2x2x4x256x2048 .bf16) (K : FVec Ideal S2x3x128 .f32) (P : FVec Ideal S2x2x32x128 .f32)
  (W1 : FVec Ideal S2x2x4096x128 .f32) (W2 : FVec Ideal S2x2x128x128 .f32)

theorem keys_at (b : Fin 2) (g : Fin 4) (r : Fin 256) (d : Fin 128) :
    keys X P W1 W2 (ix4 b g r d) = compressed X P W1 W2 0 b g r d := by
  rw [keys, second_at, compressed]
  refine Finset.sum_congr rfl fun h _ => ?_
  rw [product_at, ← halved]
  pointwise

theorem values_at (b : Fin 2) (g : Fin 4) (r : Fin 256) (d : Fin 128) :
    values X P W1 W2 (ix4 b g r d) = compressed X P W1 W2 1 b g r d := by
  rw [values, second_at, compressed]
  refine Finset.sum_congr rfl fun h _ => ?_
  rw [product_at, ← halved]
  pointwise

/-- The reference's array is the result. -/
theorem reference_eq : joined (keys X P W1 W2) (values X P W1 W2) K = result X K P W1 W2 := by
  funext i
  obtain ⟨w, b, g, r, d, rfl⟩ : ∃ (w b : Fin 2) (g : Fin 4) (r : Fin 256) (d : Fin 128), i = ix5 w b g r d :=
    ⟨i 0, i 1, i 2, i 3, i 4, by funext a; match a with | ⟨0, _⟩ => rfl | ⟨1, _⟩ => rfl | ⟨2, _⟩ => rfl | ⟨3, _⟩ => rfl | ⟨4, _⟩ => rfl⟩
  rw [joined_at, result_at]
  simp only [keys_at, values_at]
  rfl

end

end Cert.Reference5Ideal.Read

end
-- ==== Proof.Compress.lean ====
/- The block compression of the sparse attention's keys and values: the kernel's two half-block products, the second one row later, are
   the reference's product over whole blocks. -/
module

public import proofs.«01_k».proof.Defs
public import proofs.«01_k».proof.Proof.Gen.Kernel5Ideal.Value
public import Idealize.ShloMosaic.Lib.Pipeline.ReadBack
public import proofs.«01_k».proof.Proof.CompressRef
public import Idealize.ShloMosaic.Lib.Pipeline.Covers
public import Idealize.ShloMosaic.Lib.Pipeline.ValueKit
public import Idealize.ShloMosaic.Lib.WordCmp

@[expose] public section

set_option maxRecDepth 16384

noncomputable section

namespace Cert.Kernel5Ideal.Compress

open Cert.Reference5Ideal.Read (gelu next half compressed key result result_at)
open Cert.Kernel5Ideal Cert.Kernel5Ideal.Gen Idealize.ShloMosaic Idealize.ShloMosaic.TcCoe Idealize.SL.Sem

variable (m : (ℓ : Loc nD τ sig) → Buf (Elt Ideal) ℓ)

/-! ## The kernel's payloads -/

theorem pay4_at (x : Vec Ideal S1x1x1x256x2048 .bf16) (p q : Vec Ideal S1x1x1x2048 .f32) (u v : Vec Ideal S1x2048x128 .bf16)
    (r : Fin 256) (h : Fin 128) :
    k0_pay4 (F := Ideal) x p q u v (ix2 r h)
      = (∑ k : Fin 2048, (x (ix5 0 0 0 r k) + p (ix4 0 0 0 k)) * u (ix3 0 k h))
        + ∑ k : Fin 2048, (x (ix5 0 0 0 (next r) k) + q (ix4 0 0 0 k)) * v (ix3 0 k h) := by
  pointwise [k0_pay4]
  have e : (⟨(r.val + 256 - 255) % 256, Nat.mod_lt _ (by norm_num)⟩ : Fin 256) = next r :=
    Fin.ext (show (r.val + 256 - 255) % 256 = (r.val + 1) % 256 by omega)
  exact congrArg (HAdd.hAdd (α := EReal) _) (Finset.sum_congr rfl fun k _ => by rw [← e])

theorem pay3_at (x : Vec Ideal S1x1x1x256x2048 .bf16) (p q : Vec Ideal S1x1x1x2048 .f32) (u v : Vec Ideal S1x2048x128 .bf16)
    (w : Vec Ideal S1x128x128 .bf16) (r : Fin 256) (d : Fin 128) :
    k0_pay3 (F := Ideal) (k0_pay4 x p q u v) (k0_pay5 x p q u v) (Scalar.ofBits .f32 0x3F000000#32) w (ix5 0 0 0 r d)
      = ∑ h : Fin 128, gelu (k0_pay4 (F := Ideal) x p q u v (ix2 r h)) * w (ix3 0 h d) := by
  generalize e : k0_pay4 x p q u v = z
  have e5 : k0_pay5 x p q u v = fun i => Ideal.ofBits FTy.f32 0x3F800000#32
    + Ideal.tanh (Ideal.ofBits FTy.f32 0x3F4C422A#32 * (z i + Ideal.ofBits FTy.f32 0x3D372713#32 * (z i * z i * z i))) := by
    funext i
    rw [← e]; rfl
  rw [e5]
  pointwise [k0_pay3, k0_pay1, gelu]

theorem pay2_at (z a : FVec Ideal S256x128 .f32) (o : Ideal .f32) (w : Vec Ideal S1x128x128 .bf16) (g : Vec Ideal S1x128 .f32)
    (r : Fin 256) (d : Fin 128) :
    k0_pay2 (F := Ideal) z a o w g (ix5 0 0 0 r d)
      = k0_pay3 (F := Ideal) z a o w (ix5 0 0 0 r d) * Ideal.rsqrt (Ideal.div
          (∑ l : Fin 128, k0_pay3 (F := Ideal) z a o w (ix5 0 0 0 r l) * k0_pay3 (F := Ideal) z a o w (ix5 0 0 0 r l))
          (Ideal.ofBits FTy.f32 0x43000000#32) + Ideal.ofBits FTy.f32 0x358637BD#32) * g (ix2 0 d) := by
  pointwise [k0_pay2, k0_pay3]

/-! ## The blocks the windows stage -/

theorem idx : ∀ t : Fin cfg0.N, win0_0.index t = ![t.val / 8, t.val / 4 % 2, t.val % 4, 0, 0] ∧ win0_1.index t = ![t.val / 8, 0, 0, 0]
    ∧ win0_2.index t = ![t.val / 8, 0, 0] ∧ win0_3.index t = ![t.val / 8, 0, 0] ∧ win0_4.index t = ![0, 0]
    ∧ win0_5.index t = ![t.val / 8, t.val / 4 % 2, t.val % 4, 0, 0] :=
  (by decide +kernel : ∀ t : Fin grid0.N, _)

theorem lt16 (t : Fin cfg0.N) : t.val < 16 := lt_of_lt_of_eq t.isLt N_0

abbrev which (t : Fin cfg0.N) : Fin 2 := ⟨t.val / 8, by have := lt16 t; omega⟩
abbrev batch (t : Fin cfg0.N) : Fin 2 := ⟨t.val / 4 % 2, by omega⟩
abbrev group (t : Fin cfg0.N) : Fin 4 := ⟨t.val % 4, by omega⟩

theorem x_at (c : Dev nD) (t : Fin cfg0.N) (r : Fin 256) (k : Fin 2048) :
    iblk m c 0 t (ix5 0 0 0 r k) = m ((c : Thread nD τ).loc main_arg0) (ix5 (which t) (batch t) (group t) r k) := by
  blk_ext [iblk, V_main_arg0, idx t]

theorem pe_at (c : Dev nD) (t : Fin cfg0.N) (s : Fin 2) (k : Fin 2048) :
    iblk m c 1 t (ix4 0 s 0 k) = m ((c : Thread nD τ).loc main_arg2) (ix4 0 (which t) ⟨s.val * 16 + k.val / 128, by omega⟩ ⟨k.val % 128, by omega⟩) := by
  have e : iblk m c 1 t (ix4 0 s 0 k) = V m c (Pipeline.arrRef spec0 1) (ix4 (which t) s 0 k) := by blk_ext [iblk, idx t]
  rw [e]
  entry_read
  pointwise

theorem w1_at (c : Dev nD) (t : Fin cfg0.N) (k : Fin 4096) (h : Fin 128) :
    iblk m c 2 t (ix3 0 k h) = m ((c : Thread nD τ).loc main_arg3) (ix4 0 (which t) k h) := by
  have e : iblk m c 2 t (ix3 0 k h) = V m c (Pipeline.arrRef spec0 2) (ix3 (which t) k h) := by blk_ext [iblk, idx t]
  rw [e]
  entry_read
  pointwise

theorem w2_at (c : Dev nD) (t : Fin cfg0.N) (h d : Fin 128) :
    iblk m c 3 t (ix3 0 h d) = m ((c : Thread nD τ).loc main_arg4) (ix4 0 (which t) h d) := by
  have e : iblk m c 3 t (ix3 0 h d) = V m c (Pipeline.arrRef spec0 3) (ix3 (which t) h d) := by blk_ext [iblk, idx t]
  rw [e]
  entry_read
  pointwise

theorem kg_at (c : Dev nD) (t : Fin cfg0.N) (d : Fin 128) :
    iblk m c 4 t (ix2 0 d) = m ((c : Thread nD τ).loc main_arg1) (ix3 0 0 d) := by
  have e : iblk m c 4 t (ix2 0 d) = V m c (Pipeline.arrRef spec0 4) (ix2 0 d) := by blk_ext [iblk, idx t]
  rw [e]
  entry_read
  pointwise

/-- The blocks written back are the whole array. -/
theorem covers : (cfg0.win 5).Covers := by decide +kernel

theorem split (y : S1x1x1x256x128.Idx) : ∃ (r : Fin 256) (d : Fin 128), y = ix5 0 0 0 r d :=
  ⟨y 3, y 4, by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl⟩

theorem pe_low (B : Vec Ideal S1x2x1x2048 .f32) (k : Fin 2048) :
    View.ld B (Rect.unit ![0, 0, 0, 0] ![1, 1, 1, 2048] inb_S1x2x1x2048_S1x1x1x2048_0_0_0_0) (ix4 0 0 0 k) = B (ix4 0 0 0 k) := by
  pointwise

theorem pe_high (B : Vec Ideal S1x2x1x2048 .f32) (k : Fin 2048) :
    View.ld B (Rect.unit ![0, 1, 0, 0] ![1, 1, 1, 2048] inb_S1x2x1x2048_S1x1x1x2048_0_1_0_0) (ix4 0 0 0 k) = B (ix4 0 1 0 k) := by
  pointwise

theorem w_low (B : Vec Ideal S1x4096x128 .bf16) (k : Fin 2048) (h : Fin 128) :
    View.ld B (Rect.unit ![0, 0, 0] ![1, 2048, 128] inb_S1x4096x128_S1x2048x128_0_0_0) (ix3 0 k h) = B (ix3 0 ⟨0 * 2048 + k.val, by omega⟩ h) := by
  pointwise

theorem w_high (B : Vec Ideal S1x4096x128 .bf16) (k : Fin 2048) (h : Fin 128) :
    View.ld B (Rect.unit ![0, 2048, 0] ![1, 2048, 128] inb_S1x4096x128_S1x2048x128_0_2048_0) (ix3 0 k h) = B (ix3 0 ⟨1 * 2048 + k.val, by omega⟩ h) := by
  pointwise

/-! ## What a grid point leaves -/

section
variable (c : Dev nD) (X : FVec Ideal S2x2x4x256x2048 .bf16) (K : FVec Ideal S2x3x128 .f32) (P : FVec Ideal S2x2x32x128 .f32)
  (W1 : FVec Ideal S2x2x4096x128 .f32) (W2 : FVec Ideal S2x2x128x128 .f32)
  (hX : m ((c : Thread nD τ).loc main_arg0) = X) (hK : m ((c : Thread nD τ).loc main_arg1) = K)
  (hP : m ((c : Thread nD τ).loc main_arg2) = P) (hW1 : m ((c : Thread nD τ).loc main_arg3) = W1)
  (hW2 : m ((c : Thread nD τ).loc main_arg4) = W2)

/-- The first product at a point, from the point's blocks. -/
abbrev first (t : Fin cfg0.N) : FVec Ideal S256x128 .f32 :=
  k0_pay4 (F := Ideal) (iblk m c 0 t)
    (View.ld (iblk m c 1 t) (Rect.unit ![0, 0, 0, 0] ![1, 1, 1, 2048] inb_S1x2x1x2048_S1x1x1x2048_0_0_0_0))
    (View.ld (iblk m c 1 t) (Rect.unit ![0, 1, 0, 0] ![1, 1, 1, 2048] inb_S1x2x1x2048_S1x1x1x2048_0_1_0_0))
    (View.ld (iblk m c 2 t) (Rect.unit ![0, 0, 0] ![1, 2048, 128] inb_S1x4096x128_S1x2048x128_0_0_0))
    (View.ld (iblk m c 2 t) (Rect.unit ![0, 2048, 0] ![1, 2048, 128] inb_S1x4096x128_S1x2048x128_0_2048_0))

/-- The hyperbolic tangent's factor at a point, from the point's blocks. -/
abbrev factor (t : Fin cfg0.N) : FVec Ideal S256x128 .f32 :=
  k0_pay5 (F := Ideal) (iblk m c 0 t)
    (View.ld (iblk m c 1 t) (Rect.unit ![0, 0, 0, 0] ![1, 1, 1, 2048] inb_S1x2x1x2048_S1x1x1x2048_0_0_0_0))
    (View.ld (iblk m c 1 t) (Rect.unit ![0, 1, 0, 0] ![1, 1, 1, 2048] inb_S1x2x1x2048_S1x1x1x2048_0_1_0_0))
    (View.ld (iblk m c 2 t) (Rect.unit ![0, 0, 0] ![1, 2048, 128] inb_S1x4096x128_S1x2048x128_0_0_0))
    (View.ld (iblk m c 2 t) (Rect.unit ![0, 2048, 0] ![1, 2048, 128] inb_S1x4096x128_S1x2048x128_0_2048_0))

theorem outA (t : Fin cfg0.N) (h : t.val < 8) :
    outsAt0 m c t.val t.isLt = k0_pay2 (F := Ideal) (first m c t) (factor m c t) (Scalar.ofBits .f32 0x3F000000#32) (iblk m c 3 t) (iblk m c 4 t) := by
  rw [outsAt0_A m c t h (by omega)]
  frame_out
  rfl

theorem outB (t : Fin cfg0.N) (h : ¬ t.val < 8) :
    outsAt0 m c t.val t.isLt = k0_pay3 (F := Ideal) (first m c t) (factor m c t) (Scalar.ofBits .f32 0x3F000000#32) (iblk m c 3 t) := by
  rw [outsAt0_B m c t h (by omega)]
  frame_out
  rfl

include hX hP hW1

/-- The first product is the two halves of the block. -/
theorem first_at (t : Fin cfg0.N) (r : Fin 256) (h : Fin 128) :
    first m c t (ix2 r h) = half X P W1 (which t) (batch t) (group t) 0 r h + half X P W1 (which t) (batch t) (group t) 1 (next r) h := by
  refine (pay4_at _ _ _ _ _ r h).trans (congrArg₂ (fun a b : EReal => a + b) ?_ ?_) <;> refine Finset.sum_congr rfl fun k _ => ?_
  · rw [pe_low, w_low, x_at, pe_at, w1_at, hX, hP, hW1]; rfl
  · rw [pe_high, w_high, x_at, pe_at, w1_at, hX, hP, hW1]; rfl

include hW2

/-- The second product is the compressed block. -/
theorem second_at (t : Fin cfg0.N) (r : Fin 256) (d : Fin 128) :
    k0_pay3 (F := Ideal) (first m c t) (factor m c t) (Scalar.ofBits .f32 0x3F000000#32) (iblk m c 3 t) (ix5 0 0 0 r d)
      = compressed X P W1 W2 (which t) (batch t) (group t) r d := by
  refine (pay3_at _ _ _ _ _ _ r d).trans (Finset.sum_congr rfl fun h _ => ?_)
  exact congrArg₂ (fun a b : EReal => gelu a * b) (first_at m c X P W1 hX hP hW1 t r h) ((w2_at m c t h d).trans (congrFun hW2 _))

include hK

theorem left (t : Fin cfg0.N) (r : Fin 256) (d : Fin 128) :
    outsAt0 m c t.val t.isLt (ix5 0 0 0 r d) = result X K P W1 W2 (ix5 (which t) (batch t) (group t) r d) := by
  have hs := second_at m c X P W1 W2 hX hP hW1 hW2 t r
  by_cases h : t.val < 8
  · have hw : which t = 0 := Fin.ext (show t.val / 8 = 0 by omega)
    rw [outA m c t h, pay2_at, kg_at, hK, result_at, if_pos (show t.val / 8 < 1 by omega), key]
    simp only [hs, hw]
  · have hw : which t = 1 := Fin.ext (show t.val / 8 = 1 by have := lt16 t; omega)
    rw [outB m c t h, hs, result_at, if_neg (show ¬ t.val / 8 < 1 by omega), hw]

/-- The kernel's array is the result. -/
theorem final : (dats m 0 c).arrAt 5 cfg0.N = result X K P W1 W2 := by
  refine (dats m 0 c).arrAt_eq_of_covers 5 _ covers fun t hf y => ?_
  blk_simp
  rw [after0_5]
  obtain ⟨r, d, rfl⟩ := split y
  have e : (win0_5.blk t).view.emb (ix5 0 0 0 r d) = ix5 (which t) (batch t) (group t) r d := by
    funext a
    match a with
    | ⟨0, _⟩ => exact Fin.ext (by blk_simp [idx t]; rfl)
    | ⟨1, _⟩ => exact Fin.ext (by blk_simp [idx t]; rfl)
    | ⟨2, _⟩ => exact Fin.ext (by blk_simp [idx t]; rfl)
    | ⟨3, _⟩ => exact Fin.ext (by blk_simp [idx t])
    | ⟨4, _⟩ => exact Fin.ext (by blk_simp [idx t])
  rw [e]
  exact left m c X K P W1 W2 hX hK hP hW1 hW2 t r d

end

/-- The kernel and the reference compute one array. -/
theorem agrees : Cert.algebraic_Kernel5Ideal_Reference5Ideal := fun m g m' g' _ hargs => by
  refine ⟨fun c => result (m ((c : Thread nD τ).loc main_arg0)) (m ((c : Thread nD τ).loc main_arg1)) (m ((c : Thread nD τ).loc main_arg2))
      (m ((c : Thread nD τ).loc main_arg3)) (m ((c : Thread nD τ).loc main_arg4)),
    (θ_run _ _ _).mono (fun r h c => ⟨(h c).1.trans (final m c _ _ _ _ _ rfl rfl rfl rfl rfl), (h c).2⟩) (Cert.Kernel5Ideal.Value.run_blocks m g),
    (θ_run _ _ _).mono (fun r h c => ⟨(h c).1.trans ?_, (h c).2⟩) (Cert.Reference5Ideal.Value.run (F := Ideal) m' g')⟩
  obtain ⟨h0, h1, h2, h3, h4⟩ := hargs c
  rw [Cert.Reference5Ideal.Read.res_eq, h0, h1, h2, h3, h4]
  exact Cert.Reference5Ideal.Read.reference_eq _ _ _ _ _

end Cert.Kernel5Ideal.Compress

end
-- ==== Proof.Stick.lean ====
/- The real-number mathematics of stick-breaking attention: a row's base-2 logits `P`, the base-2 softplus
   `sp`, the sum of the softplus between a key and its query, and the weight of a key. Both programs are
   compared through these functions: the kernel computes in base 2, the reference in base e. -/
module

public import Idealize.ShloMosaic.PureOps.Ideal

@[expose] public section

noncomputable section

namespace Cert.Proof.Stick

open Idealize.ShloMosaic

/-- The base-2 softplus `log2 (1 + 2^p)`, as the kernel arranges it. -/
def sp (p : ℝ) : ℝ := max p 0 + Real.log (1 + Real.rpow 2 (-|p|)) * (Real.log 2)⁻¹

/-- The softplus summed from key `s` up to, and without, query `t`. -/
def between (P : ℕ → ℝ) (s t : ℕ) : ℝ := ∑ j ∈ Finset.Ico s t, sp (P j)

/-- The weight query `t` gives to key `s`: zero unless the key comes before the query. -/
def weight (P : ℕ → ℝ) (t s : ℕ) : ℝ := if s < t then Real.rpow 2 (P s - between P s t) else 0

theorem log_two_pos : 0 < Real.log 2 := Real.log_pos (by norm_num)

/-- In base e: `sp p · ln 2 = ln (1 + e^(p · ln 2))`. -/
theorem sp_mul_log (p : ℝ) : sp p * Real.log 2 = Real.log (1 + Real.exp (p * Real.log 2)) := by
  have h2 := log_two_pos
  have e2 : ∀ x : ℝ, Real.rpow 2 x = Real.exp (x * Real.log 2) := fun x => by
    show (2 : ℝ) ^ x = _
    rw [Real.rpow_def_of_pos (by norm_num), mul_comm]
  unfold sp
  rw [add_mul, mul_assoc, inv_mul_cancel₀ h2.ne', mul_one, e2]
  rcases le_total 0 p with hp | hp
  · rw [max_eq_left hp, abs_of_nonneg hp]
    have : (1 : ℝ) + Real.exp (p * Real.log 2)
        = Real.exp (p * Real.log 2) * (1 + Real.exp (-p * Real.log 2)) := by
      rw [mul_add, ← Real.exp_add, mul_one]
      have : p * Real.log 2 + -p * Real.log 2 = 0 := by ring
      rw [this, Real.exp_zero, add_comm]
    rw [this, Real.log_mul (Real.exp_pos _).ne' (by positivity), Real.log_exp]
  · rw [max_eq_right hp, abs_of_nonpos hp, zero_mul, zero_add, neg_neg]

/-- The kernel's softplus of a finite logit is `sp` of it. -/
theorem kernel_softplus (p : ℝ) :
    max (p : EReal) 0 + Ideal.log (1 + Ideal.exp2 (0 - max (p : EReal) (-(p : EReal)))) * (((Real.log 2)⁻¹ : ℝ) : EReal)
      = ((sp p : ℝ) : EReal) := by
  have h1 : max (p : EReal) (-(p : EReal)) = ((|p| : ℝ) : EReal) := by
    rw [← EReal.coe_neg, ← EReal.coe_strictMono.monotone.map_max]; rfl
  have hpos : 0 < 1 + Real.rpow 2 (-|p|) := by
    have : 0 < Real.rpow 2 (-|p|) := Real.rpow_pos_of_pos (by norm_num) _
    linarith
  rw [h1, ← EReal.coe_zero, ← EReal.coe_sub, zero_sub, Ideal.exp2_coe, ← EReal.coe_one, ← EReal.coe_add,
    Ideal.log_coe, if_neg (not_le.mpr hpos), ← EReal.coe_mul, ← EReal.coe_strictMono.monotone.map_max,
    ← EReal.coe_add]
  rfl

/-- The reference's softplus of a finite number. -/
theorem host_softplus (x : ℝ) :
    max (x : EReal) 0 + Ideal.log1p (Ideal.exp (-(max ((x : EReal) - 0) (-((x : EReal) - 0)))))
      = ((Real.log (1 + Real.exp x) : ℝ) : EReal) := by
  have h1 : max (x : EReal) (-(x : EReal)) = ((|x| : ℝ) : EReal) := by
    rw [← EReal.coe_neg, ← EReal.coe_strictMono.monotone.map_max]; rfl
  have hpos : 0 < 1 + Real.exp (-|x|) := by positivity
  rw [sub_zero, h1, ← EReal.coe_neg, Ideal.exp_coe, Ideal.log1p, ← EReal.coe_one, ← EReal.coe_add,
    Ideal.log_coe, if_neg (not_le.mpr hpos), ← EReal.coe_zero, ← EReal.coe_strictMono.monotone.map_max,
    ← EReal.coe_add]
  congr 1
  rcases le_total 0 x with hx | hx
  · rw [max_eq_left hx, abs_of_nonneg hx]
    have : (1 : ℝ) + Real.exp x = Real.exp x * (1 + Real.exp (-x)) := by
      rw [mul_add, ← Real.exp_add, mul_one, add_neg_cancel, Real.exp_zero, add_comm]
    rw [this, Real.log_mul (Real.exp_pos _).ne' (by positivity), Real.log_exp]
  · rw [max_eq_right hx, abs_of_nonpos hx, neg_neg, zero_add]

/-- `-ln (1 + e^(-z)) = z - ln (1 + e^z)`. -/
theorem log_sigmoid (z : ℝ) : -Real.log (1 + Real.exp (-z)) = z - Real.log (1 + Real.exp z) := by
  have : (1 : ℝ) + Real.exp z = Real.exp z * (1 + Real.exp (-z)) := by
    rw [mul_add, ← Real.exp_add, mul_one, add_neg_cancel, Real.exp_zero, add_comm]
  rw [this, Real.log_mul (Real.exp_pos _).ne' (by positivity), Real.log_exp]
  ring

/-- The logarithm of `1 - σ` the reference sums: `-ln (1 + e^z)` for a key before the query, `0` for another. -/
def lom (P : ℕ → ℝ) (t j : ℕ) : ℝ := if j < t then -Real.log (1 + Real.exp (P j * Real.log 2)) else 0

/-- The reference's reversed running sum from key `s`, over a row of `n` keys, is the softplus between. -/
theorem sum_lom (P : ℕ → ℝ) (n s t : ℕ) (ht : t ≤ n) :
    (∑ k ∈ Finset.range n, if s + k < n then lom P t (s + k) else 0) = -(between P s t * Real.log 2) := by
  unfold between
  rw [Finset.sum_Ico_eq_sum_range, Finset.sum_mul, ← Finset.sum_neg_distrib]
  symm
  refine (Finset.sum_congr rfl fun k hk => ?_).trans
    (Finset.sum_subset (Finset.range_subset_range.mpr (by omega)) fun k _ hk => ?_)
  · have := Finset.mem_range.mp hk
    rw [if_pos (by omega), lom, if_pos (by omega), sp_mul_log]
  · have := mt Finset.mem_range.mpr hk
    have e : lom P t (s + k) = 0 := if_neg (by omega)
    rw [e, ite_self]

/-- The reference's weight of a key before the query, in base e, is the kernel's in base 2. -/
theorem exp_weight (P : ℕ → ℝ) (s t : ℕ) (hst : s < t) :
    Real.exp (-Real.log (1 + Real.exp (-(P s * Real.log 2))) + (-(between P s t * Real.log 2) - lom P t s))
      = weight P t s := by
  rw [weight, if_pos hst, lom, if_pos hst, log_sigmoid]
  refine Eq.trans ?_ (Real.rpow_def_of_pos (by norm_num) _).symm
  congr 1
  ring

/-- The softplus from `s` on, split at a later key. -/
theorem between_add (P : ℕ → ℝ) {a b c : ℕ} (h₁ : a ≤ b) (h₂ : b ≤ c) :
    between P a b + between P b c = between P a c :=
  Finset.sum_Ico_consecutive _ h₁ h₂

/-- A finite sum of real numbers, among the extended reals. -/
theorem coe_sum {ι : Type*} (u : Finset ι) (f : ι → ℝ) : ((∑ i ∈ u, f i : ℝ) : EReal) = ∑ i ∈ u, (f i : EReal) := by
  classical
  induction u using Finset.induction_on with
  | empty => simp
  | insert a u ha ih => rw [Finset.sum_insert ha, Finset.sum_insert ha, EReal.coe_add, ih]

end Cert.Proof.Stick

end
-- ==== Proof.Block.lean ====
/- One key block of the kernel, one head at a time: the scores, the suffix sums of the softplus (plain, and masked on the
   diagonal), the carried column and the accumulator update, each read at an index and then at finite scores. -/
module

public import proofs.«01_k».proof.Proof.Gen.KernelIdeal.Value
public import Idealize.ShloMosaic.Lib.Pipeline.ValueKit
public import Idealize.ShloMosaic.Lib.WordCmp
public import proofs.«01_k».proof.Proof.Stick

@[expose] public section

set_option maxRecDepth 16384

noncomputable section

namespace Cert.KernelIdeal.Block

open Cert.KernelIdeal Cert.KernelIdeal.Gen Idealize.ShloMosaic Idealize.ShloMosaic.TcCoe Idealize.SL.Sem
open Cert.Proof.Stick

theorem log2e : Named.named (F := Ideal) κ "log2e" (φ := .f32) 0x3FB8AA3B#32 = (((Real.log 2)⁻¹ : ℝ) : EReal) :=
  IdealRules.named_const.ideal_named_scalar _ _ _ _ rfl

/-- The kernel's softplus of a score, as it prints. -/
def soft (x : EReal) : EReal :=
  max x 0 + Ideal.log (1 + FloatOps.exp2 (F := Ideal) (φ := .f32) (0 - FloatOps.absf (F := Ideal) (φ := .f32) x))
    * Named.named (F := Ideal) κ "log2e" (φ := .f32) 0x3FB8AA3B#32

theorem soft_coe (p : ℝ) : soft (p : EReal) = ((sp p : ℝ) : EReal) := by
  rw [soft, log2e]
  exact kernel_softplus p

theorem score_at (q k : Vec Ideal S256x128 .bf16) (r c : Fin 256) :
    k0_pay1 (F := Ideal) q k (ix2 r c) = ∑ d : Fin 128, q (ix2 r d) * k (ix2 c d) := by
  pointwise [k0_pay1]

theorem suffix_at (u : Vec Ideal S512x256 .bf16) (carry : FVec Ideal S256x1 .f32) (z : FVec Ideal S256x256 .f32) (r c : Fin 256) :
    k0_pay9 (F := Ideal) u carry z (ix2 r c)
      = ∑ j : Fin 256, soft (z (ix2 r j)) * u (ix2 ⟨j.val, by omega⟩ c)
        + ∑ j : Fin 256, (soft (z (ix2 r j)) - soft (z (ix2 r j))) * u (ix2 ⟨256 + j.val, by omega⟩ c)
        + carry (ix2 r 0) := by
  pointwise [k0_pay9]
  rfl

theorem addi_zero (x : BitVec 32) : IntOp.addi x 0#32 = x := BitVec.add_zero x

/-- The diagonal block's suffix sums: keys at or past the row's own count nothing. -/
theorem maskedSuffix_at (u : Vec Ideal S512x256 .bf16) (carry : FVec Ideal S256x1 .f32) (z : FVec Ideal S256x256 .f32) (r c : Fin 256) :
    k0_pay119 (F := Ideal) u carry z (ix2 r c)
      = ∑ j : Fin 256, (if j.val < r.val then soft (z (ix2 r j)) * u (ix2 ⟨j.val, by omega⟩ c) else 0)
        + ∑ j : Fin 256, ((if j.val < r.val then soft (z (ix2 r j)) else 0) - (if j.val < r.val then soft (z (ix2 r j)) else 0))
          * u (ix2 ⟨256 + j.val, by omega⟩ c)
        + carry (ix2 r 0) := by
  pointwise [k0_pay119]
  simp only [addi_zero]
  word_cmp
  refine congrArg₂ (· + ·) (congrArg₂ (· + ·) (Finset.sum_congr rfl fun j _ => ?_) (Finset.sum_congr rfl fun j _ => ?_)) rfl
  · by_cases hj : j.val < r.val
    · rw [if_pos hj, if_pos hj]; rfl
    · rw [if_neg hj, if_neg hj]
  · by_cases hj : j.val < r.val
    · rw [if_pos hj, if_pos hj]; rfl
    · rw [if_neg hj, if_neg hj]

theorem carry_at (u : Vec Ideal S512x256 .bf16) (carry : FVec Ideal S256x1 .f32) (z : FVec Ideal S256x256 .f32) (r : Fin 256) :
    k0_pay11 (F := Ideal) u carry z (ix2 r 0) = k0_pay9 (F := Ideal) u carry z (ix2 r 0) := by
  pointwise [k0_pay11]

theorem maskedCarry_at (u : Vec Ideal S512x256 .bf16) (carry : FVec Ideal S256x1 .f32) (z : FVec Ideal S256x256 .f32) (r : Fin 256) :
    k0_pay121 (F := Ideal) u carry z (ix2 r 0) = k0_pay119 (F := Ideal) u carry z (ix2 r 0) := by
  pointwise [k0_pay121]

theorem acc_at (v : Vec Ideal S256x128 .bf16) (e : FVec Ideal S256x256 .f32) (a : Vec Ideal S1x256x128 .f32) (r : Fin 256) (d : Fin 128) :
    k0_pay39 (F := Ideal) v (k0_pay37 e) (k0_pay38 a) (ix3 0 r d) = a (ix3 0 r d) + ∑ c : Fin 256, Ideal.exp2 (e (ix2 r c)) * v (ix2 c d) := by
  pointwise [k0_pay39, k0_pay37, k0_pay38]
  rfl

theorem maskedAcc_at (v : Vec Ideal S256x128 .bf16) (e : FVec Ideal S256x256 .f32) (a : Vec Ideal S1x256x128 .f32) (r : Fin 256) (d : Fin 128) :
    k0_pay147 (F := Ideal) e v a (ix3 0 r d)
      = a (ix3 0 r d) + ∑ c : Fin 256, (if c.val < r.val then Ideal.exp2 (e (ix2 r c)) else 0) * v (ix2 c d) := by
  pointwise [k0_pay147]
  simp only [addi_zero]
  word_cmp
  refine congrArg₂ (· + ·) rfl (Finset.sum_congr rfl fun j _ => ?_)
  by_cases hj : j.val < r.val
  · rw [if_pos hj, if_pos hj]; rfl
  · rw [if_neg hj, if_neg hj, zero_mul]

/-- A sum over a block's keys from `c` on, as a stretch of the row. -/
theorem sum_from (f : ℕ → ℝ) (s0 : ℕ) (c : Fin 256) :
    ∑ j : Fin 256, (if c.val ≤ j.val then f (s0 + j.val) else 0) = ∑ j ∈ Finset.Ico (s0 + c.val) (s0 + 256), f j := by
  rw [Fin.sum_univ_eq_sum_range (fun j => if c.val ≤ j then f (s0 + j) else 0) 256, ← Finset.sum_filter,
    add_comm s0 c.val, add_comm s0 256, ← Finset.sum_Ico_add f c.val 256 s0]
  · refine Finset.sum_congr ?_ fun _ _ => rfl
    ext j; simp only [Finset.mem_filter, Finset.mem_range, Finset.mem_Ico]; omega

/-- The suffix sums of a block below the diagonal, at finite scores. -/
theorem suffix_val (u : Vec Ideal S512x256 .bf16) (carry : FVec Ideal S256x1 .f32) (z : FVec Ideal S256x256 .f32) (r c : Fin 256)
    (P : ℕ → ℝ) (s0 t : ℕ) (hs : s0 + 256 ≤ t)
    (hu : ∀ (j : Fin 512) (c : Fin 256), u (ix2 j c) = if c.val ≤ j.val % 256 then 1 else 0)
    (hz : ∀ c : Fin 256, z (ix2 r c) = ((P (s0 + c.val) : ℝ) : EReal))
    (hc : carry (ix2 r 0) = ((between P (s0 + 256) t : ℝ) : EReal)) :
    k0_pay9 (F := Ideal) u carry z (ix2 r c) = ((between P (s0 + c.val) t : ℝ) : EReal) := by
  rw [suffix_at, hc, ← between_add P (show s0 + c.val ≤ s0 + 256 by omega) hs, EReal.coe_add]
  refine congrArg (· + _) ?_
  rw [between, ← sum_from (fun j => sp (P j)) s0 c, coe_sum]
  refine (congrArg₂ (· + ·) (Finset.sum_congr rfl fun j _ => ?_) (Finset.sum_eq_zero fun j _ => ?_)).trans (add_zero _)
  · rw [hz, soft_coe, hu, show j.val % 256 = j.val by omega]
    by_cases h : c.val ≤ j.val
    · rw [if_pos h, if_pos h, mul_one]
    · rw [if_neg h, if_neg h, mul_zero, EReal.coe_zero]
  · rw [hz, soft_coe, ← EReal.coe_sub, sub_self, EReal.coe_zero, zero_mul]

/-- The suffix sums of the diagonal block, at finite scores. -/
theorem maskedSuffix_val (u : Vec Ideal S512x256 .bf16) (carry : FVec Ideal S256x1 .f32) (z : FVec Ideal S256x256 .f32) (r c : Fin 256)
    (P : ℕ → ℝ) (s0 : ℕ)
    (hu : ∀ (j : Fin 512) (c : Fin 256), u (ix2 j c) = if c.val ≤ j.val % 256 then 1 else 0)
    (hz : ∀ c : Fin 256, z (ix2 r c) = ((P (s0 + c.val) : ℝ) : EReal)) (hc : carry (ix2 r 0) = 0) :
    k0_pay119 (F := Ideal) u carry z (ix2 r c) = ((between P (s0 + c.val) (s0 + r.val) : ℝ) : EReal) := by
  have hb : between P (s0 + c.val) (s0 + r.val)
      = ∑ j : Fin 256, if c.val ≤ j.val then (if j.val < r.val then sp (P (s0 + j.val)) else 0) else 0 := by
    have := sum_from (fun j => if j < s0 + r.val then sp (P j) else 0) s0 c
    simp only [Nat.add_lt_add_iff_left] at this
    rw [this, between, ← Finset.sum_filter]
    refine Finset.sum_congr ?_ fun _ _ => rfl
    ext j; simp only [Finset.mem_filter, Finset.mem_Ico]; omega
  rw [maskedSuffix_at, hc, add_zero, hb, coe_sum]
  refine (congrArg₂ (· + ·) (Finset.sum_congr rfl fun j _ => ?_) (Finset.sum_eq_zero fun j _ => ?_)).trans (add_zero _)
  · rw [hz, soft_coe, hu, show j.val % 256 = j.val by omega]
    by_cases h : c.val ≤ j.val <;> by_cases h' : j.val < r.val <;> simp [h, h']
  · rw [hz, soft_coe]
    by_cases h' : j.val < r.val
    · rw [if_pos h', ← EReal.coe_sub, sub_self, EReal.coe_zero, zero_mul]
    · rw [if_neg h', sub_zero, zero_mul]

/-- One trip of one head below the diagonal: the carried column moves to the block's start, the accumulator takes the
    block's weighted values. -/
theorem trip_head (u : Vec Ideal S512x256 .bf16) (carry : FVec Ideal S256x1 .f32) (q k v : Vec Ideal S256x128 .bf16)
    (a : Vec Ideal S1x256x128 .f32) (r : Fin 256) (d : Fin 128) (P : ℕ → ℝ) (V : ℕ → EReal) (s0 t : ℕ) (hs : s0 + 256 ≤ t)
    (hu : ∀ (j : Fin 512) (c : Fin 256), u (ix2 j c) = if c.val ≤ j.val % 256 then 1 else 0)
    (hz : ∀ c : Fin 256, ∑ e : Fin 128, q (ix2 r e) * k (ix2 c e) = ((P (s0 + c.val) : ℝ) : EReal))
    (hv : ∀ c : Fin 256, v (ix2 c d) = V (s0 + c.val))
    (hc : carry (ix2 r 0) = ((between P (s0 + 256) t : ℝ) : EReal)) :
    k0_pay11 (F := Ideal) u carry (k0_pay1 q k) (ix2 r 0) = ((between P s0 t : ℝ) : EReal)
    ∧ k0_pay39 (F := Ideal) v (k0_pay37 (k0_pay10 u carry (k0_pay1 q k))) (k0_pay38 a) (ix3 0 r d)
      = a (ix3 0 r d) + ∑ c : Fin 256, ((weight P t (s0 + c.val) : ℝ) : EReal) * V (s0 + c.val) := by
  have hz' : ∀ c : Fin 256, k0_pay1 (F := Ideal) q k (ix2 r c) = ((P (s0 + c.val) : ℝ) : EReal) := fun c => by
    rw [score_at, hz]
  refine ⟨?_, ?_⟩
  · rw [carry_at, suffix_val u carry _ r 0 P s0 t hs hu hz' hc]; rfl
  · rw [acc_at]
    refine congrArg _ (Finset.sum_congr rfl fun c _ => ?_)
    have he : k0_pay10 (F := Ideal) u carry (k0_pay1 q k) (ix2 r c)
        = ((P (s0 + c.val) - between P (s0 + c.val) t : ℝ) : EReal) := by
      show k0_pay1 (F := Ideal) q k (ix2 r c) - k0_pay9 (F := Ideal) u carry (k0_pay1 q k) (ix2 r c) = _
      rw [hz', suffix_val u carry _ r c P s0 t hs hu hz' hc, EReal.coe_sub]
    rw [he, Ideal.exp2_coe, hv, weight, if_pos (by omega)]

/-- The diagonal block of one head. -/
theorem diag_head (u : Vec Ideal S512x256 .bf16) (carry : FVec Ideal S256x1 .f32) (q k v : Vec Ideal S256x128 .bf16)
    (a : Vec Ideal S1x256x128 .f32) (r : Fin 256) (d : Fin 128) (P : ℕ → ℝ) (V : ℕ → EReal) (s0 : ℕ)
    (hu : ∀ (j : Fin 512) (c : Fin 256), u (ix2 j c) = if c.val ≤ j.val % 256 then 1 else 0)
    (hz : ∀ c : Fin 256, ∑ e : Fin 128, q (ix2 r e) * k (ix2 c e) = ((P (s0 + c.val) : ℝ) : EReal))
    (hv : ∀ c : Fin 256, v (ix2 c d) = V (s0 + c.val))
    (hc : carry (ix2 r 0) = 0) :
    k0_pay121 (F := Ideal) u carry (k0_pay1 q k) (ix2 r 0) = ((between P s0 (s0 + r.val) : ℝ) : EReal)
    ∧ k0_pay147 (F := Ideal) (k0_pay120 u carry (k0_pay1 q k)) v a (ix3 0 r d)
      = a (ix3 0 r d) + ∑ c : Fin 256, ((weight P (s0 + r.val) (s0 + c.val) : ℝ) : EReal) * V (s0 + c.val) := by
  have hz' : ∀ c : Fin 256, k0_pay1 (F := Ideal) q k (ix2 r c) = ((P (s0 + c.val) : ℝ) : EReal) := fun c => by
    rw [score_at, hz]
  refine ⟨?_, ?_⟩
  · rw [maskedCarry_at, maskedSuffix_val u carry _ r 0 P s0 hu hz' hc]; rfl
  · rw [maskedAcc_at]
    refine congrArg _ (Finset.sum_congr rfl fun c _ => ?_)
    have he : k0_pay120 (F := Ideal) u carry (k0_pay1 q k) (ix2 r c)
        = ((P (s0 + c.val) - between P (s0 + c.val) (s0 + r.val) : ℝ) : EReal) := by
      show k0_pay1 (F := Ideal) q k (ix2 r c) - k0_pay119 (F := Ideal) u carry (k0_pay1 q k) (ix2 r c) = _
      rw [hz', maskedSuffix_val u carry _ r c P s0 hu hz' hc, EReal.coe_sub]
    rw [he, Ideal.exp2_coe, hv, weight]
    by_cases h : c.val < r.val
    · rw [if_pos h, if_pos (by omega)]
    · rw [if_neg h, if_neg (by omega), EReal.coe_zero]

end Cert.KernelIdeal.Block

end
-- ==== Proof.Trip.lean ====
/- One trip of the kernel's loop over the key blocks below the diagonal: what it carries on and what it leaves in the
   accumulators, one head at a time, and the state before every trip. -/
module

public import proofs.«01_k».proof.Proof.Gen.KernelIdeal.Value
public import Idealize.ShloMosaic.Lib.Pipeline.ValueKit
public import Idealize.ShloMosaic.Lib.WritesUnit
public import proofs.«01_k».proof.Proof.Block

@[expose] public section

set_option maxRecDepth 16384

noncomputable section

namespace Cert.KernelIdeal.Trip

open Cert.KernelIdeal Cert.KernelIdeal.Gen Idealize.ShloMosaic Idealize.ShloMosaic.TcCoe Idealize.SL.Sem
open Cert.KernelIdeal.Facts
open Cert.Proof.Stick

variable (𝒱 : Variants) (c : Dev nD) (bd : Option 𝒱.V) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S512x256 .bf16) (harg6 : arg6.IsWhole) (arg7 : Memref sig .tc .vmem S256x1024 .bf16) (harg7 : arg7.IsWhole) (arg8 : Memref sig .tc .vmem S8x256x128 .f32) (harg8 : arg8.IsWhole) (arg2 : BitVec 32) (v0 : Vec Ideal S512x256 .bf16) (v77 v106 v135 v164 v193 v222 v251 v280 : FVec Ideal S256x1 .f32) (v408 : Vec Ideal S256x128 .bf16) (v410 : FVec Ideal S256x256 .bf16) (v411 : IVec S256x256 32) (v412 : BitVec 32) (X_arg3 : BufTy.Contents (Elt Ideal) arg3.view.ty) (X_arg4 : BufTy.Contents (Elt Ideal) arg4.view.ty) (X_arg5 : BufTy.Contents (Elt Ideal) arg5.view.ty)

/-- The eight heads' carried columns. -/
abbrev Carry := FVec Ideal S256x1 .f32 × FVec Ideal S256x1 .f32 × FVec Ideal S256x1 .f32 × FVec Ideal S256x1 .f32 × FVec Ideal S256x1 .f32 × FVec Ideal S256x1 .f32 × FVec Ideal S256x1 .f32 × FVec Ideal S256x1 .f32

variable (k : Fin (k0_t1_loop i).trips) (acc : Carry) (f : BufTy.Contents (Elt Ideal) arg8.view.ty)

theorem tripR_eq : tripR_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f
    = (k0_pay11 v0 acc.1 (k0_pay1 (arg3.view.readAt (Elt Ideal) (Rect.unit (s := S256x1024) ![0, 0] S256x128.size inb_S256x1024_S256x128_0_0).toLoadRect X_arg3) (arg4.view.readAt (Elt Ideal) (Rect.unit (s := S4096x1024) (k0_off9 i k) S256x128.size (k0_off9_inb i k)).toLoadRect X_arg4)),
      k0_pay11 v0 acc.2.1 (k0_pay1 (arg3.view.readAt (Elt Ideal) (Rect.unit (s := S256x1024) ![0, 128] S256x128.size inb_S256x1024_S256x128_0_128).toLoadRect X_arg3) (arg4.view.readAt (Elt Ideal) (Rect.unit (s := S4096x1024) (k0_off10 i k) S256x128.size (k0_off10_inb i k)).toLoadRect X_arg4)),
      k0_pay11 v0 acc.2.2.1 (k0_pay1 (arg3.view.readAt (Elt Ideal) (Rect.unit (s := S256x1024) ![0, 256] S256x128.size inb_S256x1024_S256x128_0_256).toLoadRect X_arg3) (arg4.view.readAt (Elt Ideal) (Rect.unit (s := S4096x1024) (k0_off11 i k) S256x128.size (k0_off11_inb i k)).toLoadRect X_arg4)),
      k0_pay11 v0 acc.2.2.2.1 (k0_pay1 (arg3.view.readAt (Elt Ideal) (Rect.unit (s := S256x1024) ![0, 384] S256x128.size inb_S256x1024_S256x128_0_384).toLoadRect X_arg3) (arg4.view.readAt (Elt Ideal) (Rect.unit (s := S4096x1024) (k0_off12 i k) S256x128.size (k0_off12_inb i k)).toLoadRect X_arg4)),
      k0_pay11 v0 acc.2.2.2.2.1 (k0_pay1 (arg3.view.readAt (Elt Ideal) (Rect.unit (s := S256x1024) ![0, 512] S256x128.size inb_S256x1024_S256x128_0_512).toLoadRect X_arg3) (arg4.view.readAt (Elt Ideal) (Rect.unit (s := S4096x1024) (k0_off13 i k) S256x128.size (k0_off13_inb i k)).toLoadRect X_arg4)),
      k0_pay11 v0 acc.2.2.2.2.2.1 (k0_pay1 (arg3.view.readAt (Elt Ideal) (Rect.unit (s := S256x1024) ![0, 640] S256x128.size inb_S256x1024_S256x128_0_640).toLoadRect X_arg3) (arg4.view.readAt (Elt Ideal) (Rect.unit (s := S4096x1024) (k0_off14 i k) S256x128.size (k0_off14_inb i k)).toLoadRect X_arg4)),
      k0_pay11 v0 acc.2.2.2.2.2.2.1 (k0_pay1 (arg3.view.readAt (Elt Ideal) (Rect.unit (s := S256x1024) ![0, 768] S256x128.size inb_S256x1024_S256x128_0_768).toLoadRect X_arg3) (arg4.view.readAt (Elt Ideal) (Rect.unit (s := S4096x1024) (k0_off15 i k) S256x128.size (k0_off15_inb i k)).toLoadRect X_arg4)),
      k0_pay11 v0 acc.2.2.2.2.2.2.2 (k0_pay1 (arg3.view.readAt (Elt Ideal) (Rect.unit (s := S256x1024) ![0, 896] S256x128.size inb_S256x1024_S256x128_0_896).toLoadRect X_arg3) (arg4.view.readAt (Elt Ideal) (Rect.unit (s := S4096x1024) (k0_off16 i k) S256x128.size (k0_off16_inb i k)).toLoadRect X_arg4))) := by
  unfold tripR_k0_t1 trip_k0_t1
  rfl

theorem tripL_eq : tripL_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f
    = [⟨Rect.unit (s := S8x256x128) ![7, 0, 0] S1x256x128.size inb_S8x256x128_S1x256x128_7_0_0,
        k0_pay39 (arg5.view.readAt (Elt Ideal) (Rect.unit (s := S4096x1024) (k0_off16 i k) S256x128.size (k0_off16_inb i k)).toLoadRect X_arg5) (k0_pay37 (k0_pay10 v0 acc.2.2.2.2.2.2.2 (k0_pay1 (arg3.view.readAt (Elt Ideal) (Rect.unit (s := S256x1024) ![0, 896] S256x128.size inb_S256x1024_S256x128_0_896).toLoadRect X_arg3) (arg4.view.readAt (Elt Ideal) (Rect.unit (s := S4096x1024) (k0_off16 i k) S256x128.size (k0_off16_inb i k)).toLoadRect X_arg4)))) (k0_pay38 (arg8.view.readAt (Elt Ideal) (Rect.unit (s := S8x256x128) ![7, 0, 0] S1x256x128.size inb_S8x256x128_S1x256x128_7_0_0).toLoadRect f))⟩,
      ⟨Rect.unit (s := S8x256x128) ![6, 0, 0] S1x256x128.size inb_S8x256x128_S1x256x128_6_0_0,
        k0_pay39 (arg5.view.readAt (Elt Ideal) (Rect.unit (s := S4096x1024) (k0_off15 i k) S256x128.size (k0_off15_inb i k)).toLoadRect X_arg5) (k0_pay37 (k0_pay10 v0 acc.2.2.2.2.2.2.1 (k0_pay1 (arg3.view.readAt (Elt Ideal) (Rect.unit (s := S256x1024) ![0, 768] S256x128.size inb_S256x1024_S256x128_0_768).toLoadRect X_arg3) (arg4.view.readAt (Elt Ideal) (Rect.unit (s := S4096x1024) (k0_off15 i k) S256x128.size (k0_off15_inb i k)).toLoadRect X_arg4)))) (k0_pay38 (arg8.view.readAt (Elt Ideal) (Rect.unit (s := S8x256x128) ![6, 0, 0] S1x256x128.size inb_S8x256x128_S1x256x128_6_0_0).toLoadRect f))⟩,
      ⟨Rect.unit (s := S8x256x128) ![5, 0, 0] S1x256x128.size inb_S8x256x128_S1x256x128_5_0_0,
        k0_pay39 (arg5.view.readAt (Elt Ideal) (Rect.unit (s := S4096x1024) (k0_off14 i k) S256x128.size (k0_off14_inb i k)).toLoadRect X_arg5) (k0_pay37 (k0_pay10 v0 acc.2.2.2.2.2.1 (k0_pay1 (arg3.view.readAt (Elt Ideal) (Rect.unit (s := S256x1024) ![0, 640] S256x128.size inb_S256x1024_S256x128_0_640).toLoadRect X_arg3) (arg4.view.readAt (Elt Ideal) (Rect.unit (s := S4096x1024) (k0_off14 i k) S256x128.size (k0_off14_inb i k)).toLoadRect X_arg4)))) (k0_pay38 (arg8.view.readAt (Elt Ideal) (Rect.unit (s := S8x256x128) ![5, 0, 0] S1x256x128.size inb_S8x256x128_S1x256x128_5_0_0).toLoadRect f))⟩,
      ⟨Rect.unit (s := S8x256x128) ![4, 0, 0] S1x256x128.size inb_S8x256x128_S1x256x128_4_0_0,
        k0_pay39 (arg5.view.readAt (Elt Ideal) (Rect.unit (s := S4096x1024) (k0_off13 i k) S256x128.size (k0_off13_inb i k)).toLoadRect X_arg5) (k0_pay37 (k0_pay10 v0 acc.2.2.2.2.1 (k0_pay1 (arg3.view.readAt (Elt Ideal) (Rect.unit (s := S256x1024) ![0, 512] S256x128.size inb_S256x1024_S256x128_0_512).toLoadRect X_arg3) (arg4.view.readAt (Elt Ideal) (Rect.unit (s := S4096x1024) (k0_off13 i k) S256x128.size (k0_off13_inb i k)).toLoadRect X_arg4)))) (k0_pay38 (arg8.view.readAt (Elt Ideal) (Rect.unit (s := S8x256x128) ![4, 0, 0] S1x256x128.size inb_S8x256x128_S1x256x128_4_0_0).toLoadRect f))⟩,
      ⟨Rect.unit (s := S8x256x128) ![3, 0, 0] S1x256x128.size inb_S8x256x128_S1x256x128_3_0_0,
        k0_pay39 (arg5.view.readAt (Elt Ideal) (Rect.unit (s := S4096x1024) (k0_off12 i k) S256x128.size (k0_off12_inb i k)).toLoadRect X_arg5) (k0_pay37 (k0_pay10 v0 acc.2.2.2.1 (k0_pay1 (arg3.view.readAt (Elt Ideal) (Rect.unit (s := S256x1024) ![0, 384] S256x128.size inb_S256x1024_S256x128_0_384).toLoadRect X_arg3) (arg4.view.readAt (Elt Ideal) (Rect.unit (s := S4096x1024) (k0_off12 i k) S256x128.size (k0_off12_inb i k)).toLoadRect X_arg4)))) (k0_pay38 (arg8.view.readAt (Elt Ideal) (Rect.unit (s := S8x256x128) ![3, 0, 0] S1x256x128.size inb_S8x256x128_S1x256x128_3_0_0).toLoadRect f))⟩,
      ⟨Rect.unit (s := S8x256x128) ![2, 0, 0] S1x256x128.size inb_S8x256x128_S1x256x128_2_0_0,
        k0_pay39 (arg5.view.readAt (Elt Ideal) (Rect.unit (s := S4096x1024) (k0_off11 i k) S256x128.size (k0_off11_inb i k)).toLoadRect X_arg5) (k0_pay37 (k0_pay10 v0 acc.2.2.1 (k0_pay1 (arg3.view.readAt (Elt Ideal) (Rect.unit (s := S256x1024) ![0, 256] S256x128.size inb_S256x1024_S256x128_0_256).toLoadRect X_arg3) (arg4.view.readAt (Elt Ideal) (Rect.unit (s := S4096x1024) (k0_off11 i k) S256x128.size (k0_off11_inb i k)).toLoadRect X_arg4)))) (k0_pay38 (arg8.view.readAt (Elt Ideal) (Rect.unit (s := S8x256x128) ![2, 0, 0] S1x256x128.size inb_S8x256x128_S1x256x128_2_0_0).toLoadRect f))⟩,
      ⟨Rect.unit (s := S8x256x128) ![1, 0, 0] S1x256x128.size inb_S8x256x128_S1x256x128_1_0_0,
        k0_pay39 (arg5.view.readAt (Elt Ideal) (Rect.unit (s := S4096x1024) (k0_off10 i k) S256x128.size (k0_off10_inb i k)).toLoadRect X_arg5) (k0_pay37 (k0_pay10 v0 acc.2.1 (k0_pay1 (arg3.view.readAt (Elt Ideal) (Rect.unit (s := S256x1024) ![0, 128] S256x128.size inb_S256x1024_S256x128_0_128).toLoadRect X_arg3) (arg4.view.readAt (Elt Ideal) (Rect.unit (s := S4096x1024) (k0_off10 i k) S256x128.size (k0_off10_inb i k)).toLoadRect X_arg4)))) (k0_pay38 (arg8.view.readAt (Elt Ideal) (Rect.unit (s := S8x256x128) ![1, 0, 0] S1x256x128.size inb_S8x256x128_S1x256x128_1_0_0).toLoadRect f))⟩,
      ⟨Rect.unit (s := S8x256x128) ![0, 0, 0] S1x256x128.size inb_S8x256x128_S1x256x128_0_0_0,
        k0_pay39 (arg5.view.readAt (Elt Ideal) (Rect.unit (s := S4096x1024) (k0_off9 i k) S256x128.size (k0_off9_inb i k)).toLoadRect X_arg5) (k0_pay37 (k0_pay10 v0 acc.1 (k0_pay1 (arg3.view.readAt (Elt Ideal) (Rect.unit (s := S256x1024) ![0, 0] S256x128.size inb_S256x1024_S256x128_0_0).toLoadRect X_arg3) (arg4.view.readAt (Elt Ideal) (Rect.unit (s := S4096x1024) (k0_off9 i k) S256x128.size (k0_off9_inb i k)).toLoadRect X_arg4)))) (k0_pay38 (arg8.view.readAt (Elt Ideal) (Rect.unit (s := S8x256x128) ![0, 0, 0] S1x256x128.size inb_S8x256x128_S1x256x128_0_0_0).toLoadRect f))⟩] := by
  unfold tripL_k0_t1 trip_k0_t1
  rfl

/-- Head `h`'s carried column. -/
def Carry.get (a : Carry) (h : Fin 8) : FVec Ideal S256x1 .f32 :=
  ![a.1, a.2.1, a.2.2.1, a.2.2.2.1, a.2.2.2.2.1, a.2.2.2.2.2.1, a.2.2.2.2.2.2.1, a.2.2.2.2.2.2.2] h

/-- A load of a unit-stride tile of a matrix, at an index. -/
theorem ld_at {n : ℕ} (v : View sig .tc .vmem ⟨2, ![n, 1024]⟩ .bf16) (X : v.ty.Contents (Elt Ideal)) (o : Fin 2 → ℕ) (a b : ℕ)
    (ho : o = ![a, b]) (inb : ∀ x : Fin 2, o x + S256x128.size x ≤ (![n, 1024] : Fin 2 → ℕ) x) (r : Fin 256) (d : Fin 128) (h0 : a + r.val < n)
    (h1 : b + d.val < 1024) :
    v.readAt (Elt Ideal) (Rect.unit (s := ⟨2, ![n, 1024]⟩) o S256x128.size inb).toLoadRect X (ix2 r d)
      = v.read (Elt Ideal) X (ix2 ⟨a + r.val, h0⟩ ⟨b + d.val, h1⟩) := by
  subst ho
  refine View.ld_unit_apply_of (v.read (Elt Ideal) X) _ _ inb (ix2 r d) _ fun x => ?_
  match x with
  | ⟨0, _⟩ => rfl
  | ⟨1, _⟩ => rfl

/-- A load of one head's accumulator, at an index. -/
theorem ldAcc_at (v : View sig .tc .vmem S8x256x128 .f32) (X : v.ty.Contents (Elt Ideal)) (o : Fin 3 → ℕ) (h : Fin 8)
    (ho : o = ![h.val, 0, 0]) (inb : ∀ x : Fin 3, o x + S1x256x128.size x ≤ S8x256x128.size x) (r : Fin 256) (d : Fin 128) :
    v.readAt (Elt Ideal) (Rect.unit (s := S8x256x128) o S1x256x128.size inb).toLoadRect X (ix3 0 r d)
      = v.read (Elt Ideal) X (ix3 h r d) := by
  subst ho
  refine View.ld_unit_apply_of (v.read (Elt Ideal) X) _ _ inb (ix3 0 r d) _ fun x => ?_
  match x with
  | ⟨0, _⟩ => rfl
  | ⟨1, _⟩ => exact (Nat.zero_add _).symm
  | ⟨2, _⟩ => exact (Nat.zero_add _).symm

/-- The eight heads' stores, read back at a head. -/
theorem read_heads (v : View sig .tc .vmem S8x256x128 .f32) (X : v.ty.Contents (Elt Ideal)) (w0 w1 w2 w3 w4 w5 w6 w7 : Vec Ideal S1x256x128 .f32)
    (h : Fin 8) (r : Fin 256) (d : Fin 128) :
    v.read (Elt Ideal) (v.writes (Elt Ideal) X [⟨Rect.unit (s := S8x256x128) ![7, 0, 0] S1x256x128.size inb_S8x256x128_S1x256x128_7_0_0, w7⟩,
      ⟨Rect.unit (s := S8x256x128) ![6, 0, 0] S1x256x128.size inb_S8x256x128_S1x256x128_6_0_0, w6⟩,
      ⟨Rect.unit (s := S8x256x128) ![5, 0, 0] S1x256x128.size inb_S8x256x128_S1x256x128_5_0_0, w5⟩,
      ⟨Rect.unit (s := S8x256x128) ![4, 0, 0] S1x256x128.size inb_S8x256x128_S1x256x128_4_0_0, w4⟩,
      ⟨Rect.unit (s := S8x256x128) ![3, 0, 0] S1x256x128.size inb_S8x256x128_S1x256x128_3_0_0, w3⟩,
      ⟨Rect.unit (s := S8x256x128) ![2, 0, 0] S1x256x128.size inb_S8x256x128_S1x256x128_2_0_0, w2⟩,
      ⟨Rect.unit (s := S8x256x128) ![1, 0, 0] S1x256x128.size inb_S8x256x128_S1x256x128_1_0_0, w1⟩,
      ⟨Rect.unit (s := S8x256x128) ![0, 0, 0] S1x256x128.size inb_S8x256x128_S1x256x128_0_0_0, w0⟩]) (ix3 h r d) = (![w0, w1, w2, w3, w4, w5, w6, w7] h : Vec Ideal S1x256x128 .f32) (ix3 0 r d) := by
  have hit : ∀ (n : ℕ) (hn : n = h.val) (inb) (w : Vec Ideal S1x256x128 .f32) (L : List (View.Piece (Elt Ideal) S8x256x128 .f32)),
      v.read (Elt Ideal) (v.writes (Elt Ideal) X (⟨Rect.unit (s := S8x256x128) ![n, 0, 0] S1x256x128.size inb, w⟩ :: L)) (ix3 h r d) = w (ix3 0 r d) := by
    intro n hn inb w L
    refine View.read_writes_cons_unit_of_mem v X inb w L (ix3 h r d) (ix3 0 r d) rfl fun x => ?_
    match x with
    | ⟨0, _⟩ => exact hn.symm
    | ⟨1, _⟩ => exact (Nat.zero_add _).symm
    | ⟨2, _⟩ => exact (Nat.zero_add _).symm
  have miss : ∀ (n : ℕ) (hn : h.val < n) (inb) (w : Vec Ideal S1x256x128 .f32) (L : List (View.Piece (Elt Ideal) S8x256x128 .f32)),
      v.read (Elt Ideal) (v.writes (Elt Ideal) X (⟨Rect.unit (s := S8x256x128) ![n, 0, 0] S1x256x128.size inb, w⟩ :: L)) (ix3 h r d)
        = v.read (Elt Ideal) (v.writes (Elt Ideal) X L) (ix3 h r d) := by
    intro n hn inb w L
    exact View.read_writes_cons_unit_of_not_mem v X inb w L (ix3 h r d) rfl (0 : Fin 3) (Or.inl hn)
  match h with
  | 0 => rw [miss 7 (by decide), miss 6 (by decide), miss 5 (by decide), miss 4 (by decide), miss 3 (by decide), miss 2 (by decide), miss 1 (by decide)]; exact hit 0 rfl _ _ _
  | 1 => rw [miss 7 (by decide), miss 6 (by decide), miss 5 (by decide), miss 4 (by decide), miss 3 (by decide), miss 2 (by decide)]; exact hit 1 rfl _ _ _
  | 2 => rw [miss 7 (by decide), miss 6 (by decide), miss 5 (by decide), miss 4 (by decide), miss 3 (by decide)]; exact hit 2 rfl _ _ _
  | 3 => rw [miss 7 (by decide), miss 6 (by decide), miss 5 (by decide), miss 4 (by decide)]; exact hit 3 rfl _ _ _
  | 4 => rw [miss 7 (by decide), miss 6 (by decide), miss 5 (by decide)]; exact hit 4 rfl _ _ _
  | 5 => rw [miss 7 (by decide), miss 6 (by decide)]; exact hit 5 rfl _ _ _
  | 6 => rw [miss 7 (by decide)]; exact hit 6 rfl _ _ _
  | 7 => exact hit 7 rfl _ _ _

theorem get0 (a0 a1 a2 a3 a4 a5 a6 a7 : FVec Ideal S256x1 .f32) : Carry.get (a0, a1, a2, a3, a4, a5, a6, a7) 0 = a0 := rfl

theorem read_head0 (v : View sig .tc .vmem S8x256x128 .f32) (X : v.ty.Contents (Elt Ideal)) (w0 w1 w2 w3 w4 w5 w6 w7 : Vec Ideal S1x256x128 .f32)
    (r : Fin 256) (d : Fin 128) :
    v.read (Elt Ideal) (v.writes (Elt Ideal) X [⟨Rect.unit (s := S8x256x128) ![7, 0, 0] S1x256x128.size inb_S8x256x128_S1x256x128_7_0_0, w7⟩,
      ⟨Rect.unit (s := S8x256x128) ![6, 0, 0] S1x256x128.size inb_S8x256x128_S1x256x128_6_0_0, w6⟩,
      ⟨Rect.unit (s := S8x256x128) ![5, 0, 0] S1x256x128.size inb_S8x256x128_S1x256x128_5_0_0, w5⟩,
      ⟨Rect.unit (s := S8x256x128) ![4, 0, 0] S1x256x128.size inb_S8x256x128_S1x256x128_4_0_0, w4⟩,
      ⟨Rect.unit (s := S8x256x128) ![3, 0, 0] S1x256x128.size inb_S8x256x128_S1x256x128_3_0_0, w3⟩,
      ⟨Rect.unit (s := S8x256x128) ![2, 0, 0] S1x256x128.size inb_S8x256x128_S1x256x128_2_0_0, w2⟩,
      ⟨Rect.unit (s := S8x256x128) ![1, 0, 0] S1x256x128.size inb_S8x256x128_S1x256x128_1_0_0, w1⟩,
      ⟨Rect.unit (s := S8x256x128) ![0, 0, 0] S1x256x128.size inb_S8x256x128_S1x256x128_0_0_0, w0⟩]) (ix3 0 r d) = w0 (ix3 0 r d) :=
  read_heads v X w0 w1 w2 w3 w4 w5 w6 w7 0 r d

theorem get1 (a0 a1 a2 a3 a4 a5 a6 a7 : FVec Ideal S256x1 .f32) : Carry.get (a0, a1, a2, a3, a4, a5, a6, a7) 1 = a1 := rfl

theorem read_head1 (v : View sig .tc .vmem S8x256x128 .f32) (X : v.ty.Contents (Elt Ideal)) (w0 w1 w2 w3 w4 w5 w6 w7 : Vec Ideal S1x256x128 .f32)
    (r : Fin 256) (d : Fin 128) :
    v.read (Elt Ideal) (v.writes (Elt Ideal) X [⟨Rect.unit (s := S8x256x128) ![7, 0, 0] S1x256x128.size inb_S8x256x128_S1x256x128_7_0_0, w7⟩,
      ⟨Rect.unit (s := S8x256x128) ![6, 0, 0] S1x256x128.size inb_S8x256x128_S1x256x128_6_0_0, w6⟩,
      ⟨Rect.unit (s := S8x256x128) ![5, 0, 0] S1x256x128.size inb_S8x256x128_S1x256x128_5_0_0, w5⟩,
      ⟨Rect.unit (s := S8x256x128) ![4, 0, 0] S1x256x128.size inb_S8x256x128_S1x256x128_4_0_0, w4⟩,
      ⟨Rect.unit (s := S8x256x128) ![3, 0, 0] S1x256x128.size inb_S8x256x128_S1x256x128_3_0_0, w3⟩,
      ⟨Rect.unit (s := S8x256x128) ![2, 0, 0] S1x256x128.size inb_S8x256x128_S1x256x128_2_0_0, w2⟩,
      ⟨Rect.unit (s := S8x256x128) ![1, 0, 0] S1x256x128.size inb_S8x256x128_S1x256x128_1_0_0, w1⟩,
      ⟨Rect.unit (s := S8x256x128) ![0, 0, 0] S1x256x128.size inb_S8x256x128_S1x256x128_0_0_0, w0⟩]) (ix3 1 r d) = w1 (ix3 0 r d) :=
  read_heads v X w0 w1 w2 w3 w4 w5 w6 w7 1 r d

theorem get2 (a0 a1 a2 a3 a4 a5 a6 a7 : FVec Ideal S256x1 .f32) : Carry.get (a0, a1, a2, a3, a4, a5, a6, a7) 2 = a2 := rfl

theorem read_head2 (v : View sig .tc .vmem S8x256x128 .f32) (X : v.ty.Contents (Elt Ideal)) (w0 w1 w2 w3 w4 w5 w6 w7 : Vec Ideal S1x256x128 .f32)
    (r : Fin 256) (d : Fin 128) :
    v.read (Elt Ideal) (v.writes (Elt Ideal) X [⟨Rect.unit (s := S8x256x128) ![7, 0, 0] S1x256x128.size inb_S8x256x128_S1x256x128_7_0_0, w7⟩,
      ⟨Rect.unit (s := S8x256x128) ![6, 0, 0] S1x256x128.size inb_S8x256x128_S1x256x128_6_0_0, w6⟩,
      ⟨Rect.unit (s := S8x256x128) ![5, 0, 0] S1x256x128.size inb_S8x256x128_S1x256x128_5_0_0, w5⟩,
      ⟨Rect.unit (s := S8x256x128) ![4, 0, 0] S1x256x128.size inb_S8x256x128_S1x256x128_4_0_0, w4⟩,
      ⟨Rect.unit (s := S8x256x128) ![3, 0, 0] S1x256x128.size inb_S8x256x128_S1x256x128_3_0_0, w3⟩,
      ⟨Rect.unit (s := S8x256x128) ![2, 0, 0] S1x256x128.size inb_S8x256x128_S1x256x128_2_0_0, w2⟩,
      ⟨Rect.unit (s := S8x256x128) ![1, 0, 0] S1x256x128.size inb_S8x256x128_S1x256x128_1_0_0, w1⟩,
      ⟨Rect.unit (s := S8x256x128) ![0, 0, 0] S1x256x128.size inb_S8x256x128_S1x256x128_0_0_0, w0⟩]) (ix3 2 r d) = w2 (ix3 0 r d) :=
  read_heads v X w0 w1 w2 w3 w4 w5 w6 w7 2 r d

theorem get3 (a0 a1 a2 a3 a4 a5 a6 a7 : FVec Ideal S256x1 .f32) : Carry.get (a0, a1, a2, a3, a4, a5, a6, a7) 3 = a3 := rfl

theorem read_head3 (v : View sig .tc .vmem S8x256x128 .f32) (X : v.ty.Contents (Elt Ideal)) (w0 w1 w2 w3 w4 w5 w6 w7 : Vec Ideal S1x256x128 .f32)
    (r : Fin 256) (d : Fin 128) :
    v.read (Elt Ideal) (v.writes (Elt Ideal) X [⟨Rect.unit (s := S8x256x128) ![7, 0, 0] S1x256x128.size inb_S8x256x128_S1x256x128_7_0_0, w7⟩,
      ⟨Rect.unit (s := S8x256x128) ![6, 0, 0] S1x256x128.size inb_S8x256x128_S1x256x128_6_0_0, w6⟩,
      ⟨Rect.unit (s := S8x256x128) ![5, 0, 0] S1x256x128.size inb_S8x256x128_S1x256x128_5_0_0, w5⟩,
      ⟨Rect.unit (s := S8x256x128) ![4, 0, 0] S1x256x128.size inb_S8x256x128_S1x256x128_4_0_0, w4⟩,
      ⟨Rect.unit (s := S8x256x128) ![3, 0, 0] S1x256x128.size inb_S8x256x128_S1x256x128_3_0_0, w3⟩,
      ⟨Rect.unit (s := S8x256x128) ![2, 0, 0] S1x256x128.size inb_S8x256x128_S1x256x128_2_0_0, w2⟩,
      ⟨Rect.unit (s := S8x256x128) ![1, 0, 0] S1x256x128.size inb_S8x256x128_S1x256x128_1_0_0, w1⟩,
      ⟨Rect.unit (s := S8x256x128) ![0, 0, 0] S1x256x128.size inb_S8x256x128_S1x256x128_0_0_0, w0⟩]) (ix3 3 r d) = w3 (ix3 0 r d) :=
  read_heads v X w0 w1 w2 w3 w4 w5 w6 w7 3 r d

theorem get4 (a0 a1 a2 a3 a4 a5 a6 a7 : FVec Ideal S256x1 .f32) : Carry.get (a0, a1, a2, a3, a4, a5, a6, a7) 4 = a4 := rfl

theorem read_head4 (v : View sig .tc .vmem S8x256x128 .f32) (X : v.ty.Contents (Elt Ideal)) (w0 w1 w2 w3 w4 w5 w6 w7 : Vec Ideal S1x256x128 .f32)
    (r : Fin 256) (d : Fin 128) :
    v.read (Elt Ideal) (v.writes (Elt Ideal) X [⟨Rect.unit (s := S8x256x128) ![7, 0, 0] S1x256x128.size inb_S8x256x128_S1x256x128_7_0_0, w7⟩,
      ⟨Rect.unit (s := S8x256x128) ![6, 0, 0] S1x256x128.size inb_S8x256x128_S1x256x128_6_0_0, w6⟩,
      ⟨Rect.unit (s := S8x256x128) ![5, 0, 0] S1x256x128.size inb_S8x256x128_S1x256x128_5_0_0, w5⟩,
      ⟨Rect.unit (s := S8x256x128) ![4, 0, 0] S1x256x128.size inb_S8x256x128_S1x256x128_4_0_0, w4⟩,
      ⟨Rect.unit (s := S8x256x128) ![3, 0, 0] S1x256x128.size inb_S8x256x128_S1x256x128_3_0_0, w3⟩,
      ⟨Rect.unit (s := S8x256x128) ![2, 0, 0] S1x256x128.size inb_S8x256x128_S1x256x128_2_0_0, w2⟩,
      ⟨Rect.unit (s := S8x256x128) ![1, 0, 0] S1x256x128.size inb_S8x256x128_S1x256x128_1_0_0, w1⟩,
      ⟨Rect.unit (s := S8x256x128) ![0, 0, 0] S1x256x128.size inb_S8x256x128_S1x256x128_0_0_0, w0⟩]) (ix3 4 r d) = w4 (ix3 0 r d) :=
  read_heads v X w0 w1 w2 w3 w4 w5 w6 w7 4 r d

theorem get5 (a0 a1 a2 a3 a4 a5 a6 a7 : FVec Ideal S256x1 .f32) : Carry.get (a0, a1, a2, a3, a4, a5, a6, a7) 5 = a5 := rfl

theorem read_head5 (v : View sig .tc .vmem S8x256x128 .f32) (X : v.ty.Contents (Elt Ideal)) (w0 w1 w2 w3 w4 w5 w6 w7 : Vec Ideal S1x256x128 .f32)
    (r : Fin 256) (d : Fin 128) :
    v.read (Elt Ideal) (v.writes (Elt Ideal) X [⟨Rect.unit (s := S8x256x128) ![7, 0, 0] S1x256x128.size inb_S8x256x128_S1x256x128_7_0_0, w7⟩,
      ⟨Rect.unit (s := S8x256x128) ![6, 0, 0] S1x256x128.size inb_S8x256x128_S1x256x128_6_0_0, w6⟩,
      ⟨Rect.unit (s := S8x256x128) ![5, 0, 0] S1x256x128.size inb_S8x256x128_S1x256x128_5_0_0, w5⟩,
      ⟨Rect.unit (s := S8x256x128) ![4, 0, 0] S1x256x128.size inb_S8x256x128_S1x256x128_4_0_0, w4⟩,
      ⟨Rect.unit (s := S8x256x128) ![3, 0, 0] S1x256x128.size inb_S8x256x128_S1x256x128_3_0_0, w3⟩,
      ⟨Rect.unit (s := S8x256x128) ![2, 0, 0] S1x256x128.size inb_S8x256x128_S1x256x128_2_0_0, w2⟩,
      ⟨Rect.unit (s := S8x256x128) ![1, 0, 0] S1x256x128.size inb_S8x256x128_S1x256x128_1_0_0, w1⟩,
      ⟨Rect.unit (s := S8x256x128) ![0, 0, 0] S1x256x128.size inb_S8x256x128_S1x256x128_0_0_0, w0⟩]) (ix3 5 r d) = w5 (ix3 0 r d) :=
  read_heads v X w0 w1 w2 w3 w4 w5 w6 w7 5 r d

theorem get6 (a0 a1 a2 a3 a4 a5 a6 a7 : FVec Ideal S256x1 .f32) : Carry.get (a0, a1, a2, a3, a4, a5, a6, a7) 6 = a6 := rfl

theorem read_head6 (v : View sig .tc .vmem S8x256x128 .f32) (X : v.ty.Contents (Elt Ideal)) (w0 w1 w2 w3 w4 w5 w6 w7 : Vec Ideal S1x256x128 .f32)
    (r : Fin 256) (d : Fin 128) :
    v.read (Elt Ideal) (v.writes (Elt Ideal) X [⟨Rect.unit (s := S8x256x128) ![7, 0, 0] S1x256x128.size inb_S8x256x128_S1x256x128_7_0_0, w7⟩,
      ⟨Rect.unit (s := S8x256x128) ![6, 0, 0] S1x256x128.size inb_S8x256x128_S1x256x128_6_0_0, w6⟩,
      ⟨Rect.unit (s := S8x256x128) ![5, 0, 0] S1x256x128.size inb_S8x256x128_S1x256x128_5_0_0, w5⟩,
      ⟨Rect.unit (s := S8x256x128) ![4, 0, 0] S1x256x128.size inb_S8x256x128_S1x256x128_4_0_0, w4⟩,
      ⟨Rect.unit (s := S8x256x128) ![3, 0, 0] S1x256x128.size inb_S8x256x128_S1x256x128_3_0_0, w3⟩,
      ⟨Rect.unit (s := S8x256x128) ![2, 0, 0] S1x256x128.size inb_S8x256x128_S1x256x128_2_0_0, w2⟩,
      ⟨Rect.unit (s := S8x256x128) ![1, 0, 0] S1x256x128.size inb_S8x256x128_S1x256x128_1_0_0, w1⟩,
      ⟨Rect.unit (s := S8x256x128) ![0, 0, 0] S1x256x128.size inb_S8x256x128_S1x256x128_0_0_0, w0⟩]) (ix3 6 r d) = w6 (ix3 0 r d) :=
  read_heads v X w0 w1 w2 w3 w4 w5 w6 w7 6 r d

theorem get7 (a0 a1 a2 a3 a4 a5 a6 a7 : FVec Ideal S256x1 .f32) : Carry.get (a0, a1, a2, a3, a4, a5, a6, a7) 7 = a7 := rfl

theorem read_head7 (v : View sig .tc .vmem S8x256x128 .f32) (X : v.ty.Contents (Elt Ideal)) (w0 w1 w2 w3 w4 w5 w6 w7 : Vec Ideal S1x256x128 .f32)
    (r : Fin 256) (d : Fin 128) :
    v.read (Elt Ideal) (v.writes (Elt Ideal) X [⟨Rect.unit (s := S8x256x128) ![7, 0, 0] S1x256x128.size inb_S8x256x128_S1x256x128_7_0_0, w7⟩,
      ⟨Rect.unit (s := S8x256x128) ![6, 0, 0] S1x256x128.size inb_S8x256x128_S1x256x128_6_0_0, w6⟩,
      ⟨Rect.unit (s := S8x256x128) ![5, 0, 0] S1x256x128.size inb_S8x256x128_S1x256x128_5_0_0, w5⟩,
      ⟨Rect.unit (s := S8x256x128) ![4, 0, 0] S1x256x128.size inb_S8x256x128_S1x256x128_4_0_0, w4⟩,
      ⟨Rect.unit (s := S8x256x128) ![3, 0, 0] S1x256x128.size inb_S8x256x128_S1x256x128_3_0_0, w3⟩,
      ⟨Rect.unit (s := S8x256x128) ![2, 0, 0] S1x256x128.size inb_S8x256x128_S1x256x128_2_0_0, w2⟩,
      ⟨Rect.unit (s := S8x256x128) ![1, 0, 0] S1x256x128.size inb_S8x256x128_S1x256x128_1_0_0, w1⟩,
      ⟨Rect.unit (s := S8x256x128) ![0, 0, 0] S1x256x128.size inb_S8x256x128_S1x256x128_0_0_0, w0⟩]) (ix3 7 r d) = w7 (ix3 0 r d) :=
  read_heads v X w0 w1 w2 w3 w4 w5 w6 w7 7 r d

/-- The loop below the diagonal runs once per block before the query block's; -/
theorem trips_eq : ∀ q : Fin 16, Scf.trips 0#32 (Scalar.addi 0#32 (Scalar.muli (Scalar.divsi (Scalar.subi (BitVec.ofNat 32 q.val) 0#32) 1#32) 1#32)) 1#32 = q.val := by
  decide +kernel

/-- the remainder loop never runs; -/
theorem trips2_eq : ∀ q : Fin 16, Scf.trips (Scalar.addi 0#32 (Scalar.muli (Scalar.divsi (Scalar.subi (BitVec.ofNat 32 q.val) 0#32) 1#32) 1#32)) (Scalar.addi 0#32 (Scalar.subi (BitVec.ofNat 32 q.val) 0#32)) 1#32 = 0 := by
  decide +kernel

/-- and trip `k` takes the block `k + 1` before the query block's. -/
theorem row_word : ∀ q n : Fin 16, n.val < q.val → (Scalar.indexCast (Scalar.muli (Scalar.subi (Scalar.subi (BitVec.ofNat 32 q.val) 1#32) (Scf.iv 0#32 1#32 n.val)) 256#32) : Index).toNat = (q.val - 1 - n.val) * 256 := by
  decide +kernel

theorem off9_val (i : grid0.Coords) (k : Fin (k0_t1_loop i).trips) : k0_off9 i k = ![((i 2).val - 1 - k.val) * 256, 0] := by
  have hk : k.val < (i 2).val := lt_of_lt_of_eq k.isLt (trips_eq (i 2))
  have hi : (i 2).val < 16 := (i 2).isLt
  have := row_word ⟨(i 2).val, hi⟩ ⟨k.val, by omega⟩ hk
  unfold k0_off9
  exact congrArg (fun n => ![n, 0]) this

theorem off10_val (i : grid0.Coords) (k : Fin (k0_t1_loop i).trips) : k0_off10 i k = ![((i 2).val - 1 - k.val) * 256, 128] := by
  have hk : k.val < (i 2).val := lt_of_lt_of_eq k.isLt (trips_eq (i 2))
  have hi : (i 2).val < 16 := (i 2).isLt
  have := row_word ⟨(i 2).val, hi⟩ ⟨k.val, by omega⟩ hk
  unfold k0_off10
  exact congrArg (fun n => ![n, 128]) this

theorem off11_val (i : grid0.Coords) (k : Fin (k0_t1_loop i).trips) : k0_off11 i k = ![((i 2).val - 1 - k.val) * 256, 256] := by
  have hk : k.val < (i 2).val := lt_of_lt_of_eq k.isLt (trips_eq (i 2))
  have hi : (i 2).val < 16 := (i 2).isLt
  have := row_word ⟨(i 2).val, hi⟩ ⟨k.val, by omega⟩ hk
  unfold k0_off11
  exact congrArg (fun n => ![n, 256]) this

theorem off12_val (i : grid0.Coords) (k : Fin (k0_t1_loop i).trips) : k0_off12 i k = ![((i 2).val - 1 - k.val) * 256, 384] := by
  have hk : k.val < (i 2).val := lt_of_lt_of_eq k.isLt (trips_eq (i 2))
  have hi : (i 2).val < 16 := (i 2).isLt
  have := row_word ⟨(i 2).val, hi⟩ ⟨k.val, by omega⟩ hk
  unfold k0_off12
  exact congrArg (fun n => ![n, 384]) this

theorem off13_val (i : grid0.Coords) (k : Fin (k0_t1_loop i).trips) : k0_off13 i k = ![((i 2).val - 1 - k.val) * 256, 512] := by
  have hk : k.val < (i 2).val := lt_of_lt_of_eq k.isLt (trips_eq (i 2))
  have hi : (i 2).val < 16 := (i 2).isLt
  have := row_word ⟨(i 2).val, hi⟩ ⟨k.val, by omega⟩ hk
  unfold k0_off13
  exact congrArg (fun n => ![n, 512]) this

theorem off14_val (i : grid0.Coords) (k : Fin (k0_t1_loop i).trips) : k0_off14 i k = ![((i 2).val - 1 - k.val) * 256, 640] := by
  have hk : k.val < (i 2).val := lt_of_lt_of_eq k.isLt (trips_eq (i 2))
  have hi : (i 2).val < 16 := (i 2).isLt
  have := row_word ⟨(i 2).val, hi⟩ ⟨k.val, by omega⟩ hk
  unfold k0_off14
  exact congrArg (fun n => ![n, 640]) this

theorem off15_val (i : grid0.Coords) (k : Fin (k0_t1_loop i).trips) : k0_off15 i k = ![((i 2).val - 1 - k.val) * 256, 768] := by
  have hk : k.val < (i 2).val := lt_of_lt_of_eq k.isLt (trips_eq (i 2))
  have hi : (i 2).val < 16 := (i 2).isLt
  have := row_word ⟨(i 2).val, hi⟩ ⟨k.val, by omega⟩ hk
  unfold k0_off15
  exact congrArg (fun n => ![n, 768]) this

theorem off16_val (i : grid0.Coords) (k : Fin (k0_t1_loop i).trips) : k0_off16 i k = ![((i 2).val - 1 - k.val) * 256, 896] := by
  have hk : k.val < (i 2).val := lt_of_lt_of_eq k.isLt (trips_eq (i 2))
  have hi : (i 2).val < 16 := (i 2).isLt
  have := row_word ⟨(i 2).val, hi⟩ ⟨k.val, by omega⟩ hk
  unfold k0_off16
  exact congrArg (fun n => ![n, 896]) this

/-- One head's part of a trip, from the buffers' contents. -/
theorem head_case (arg3 : Memref sig .tc .vmem S256x1024 .bf16) (arg4 arg5 : Memref sig .tc .vmem S4096x1024 .bf16) (arg8 : Memref sig .tc .vmem S8x256x128 .f32)
    (v0 : Vec Ideal S512x256 .bf16) (X_arg3 : BufTy.Contents (Elt Ideal) arg3.view.ty) (X_arg4 : BufTy.Contents (Elt Ideal) arg4.view.ty)
    (X_arg5 : BufTy.Contents (Elt Ideal) arg5.view.ty) (f : BufTy.Contents (Elt Ideal) arg8.view.ty)
    (h : Fin 8) (r : Fin 256) (d : Fin 128) (P : ℕ → ℝ) (V : ℕ → EReal) (kb t : ℕ) (hs : kb * 256 + 256 ≤ t ∧ kb < 16)
    (hu : ∀ (j : Fin 512) (c : Fin 256), v0 (ix2 j c) = if c.val ≤ j.val % 256 then 1 else 0)
    (hP : ∀ s : Fin 4096, ∑ e : Fin 128, arg3.view.read (Elt Ideal) X_arg3 (ix2 r ⟨h.val * 128 + e.val, by omega⟩)
      * arg4.view.read (Elt Ideal) X_arg4 (ix2 s ⟨h.val * 128 + e.val, by omega⟩) = ((P s : ℝ) : EReal))
    (hV : ∀ s : Fin 4096, arg5.view.read (Elt Ideal) X_arg5 (ix2 s ⟨h.val * 128 + d.val, by omega⟩) = V s)
    (qo ko : Fin 2 → ℕ) (ao : Fin 3 → ℕ) (hqo : qo = ![0, h.val * 128]) (hko : ko = ![kb * 256, h.val * 128]) (hao : ao = ![h.val, 0, 0])
    (qi : ∀ x : Fin 2, qo x + S256x128.size x ≤ S256x1024.size x) (ki : ∀ x : Fin 2, ko x + S256x128.size x ≤ S4096x1024.size x)
    (ai : ∀ x : Fin 3, ao x + S1x256x128.size x ≤ S8x256x128.size x) (carry : FVec Ideal S256x1 .f32)
    (hc : carry (ix2 r 0) = ((between P (kb * 256 + 256) t : ℝ) : EReal)) :
    k0_pay11 (F := Ideal) v0 carry (k0_pay1 (arg3.view.readAt (Elt Ideal) (Rect.unit (s := S256x1024) qo S256x128.size qi).toLoadRect X_arg3)
        (arg4.view.readAt (Elt Ideal) (Rect.unit (s := S4096x1024) ko S256x128.size ki).toLoadRect X_arg4)) (ix2 r 0)
      = ((between P (kb * 256) t : ℝ) : EReal)
    ∧ k0_pay39 (F := Ideal) (arg5.view.readAt (Elt Ideal) (Rect.unit (s := S4096x1024) ko S256x128.size ki).toLoadRect X_arg5)
        (k0_pay37 (k0_pay10 v0 carry (k0_pay1 (arg3.view.readAt (Elt Ideal) (Rect.unit (s := S256x1024) qo S256x128.size qi).toLoadRect X_arg3)
          (arg4.view.readAt (Elt Ideal) (Rect.unit (s := S4096x1024) ko S256x128.size ki).toLoadRect X_arg4))))
        (k0_pay38 (arg8.view.readAt (Elt Ideal) (Rect.unit (s := S8x256x128) ao S1x256x128.size ai).toLoadRect f)) (ix3 0 r d)
      = arg8.view.read (Elt Ideal) f (ix3 h r d) + ∑ c : Fin 256, ((weight P t (kb * 256 + c.val) : ℝ) : EReal) * V (kb * 256 + c.val) := by
  have hrow (c : Fin 256) : kb * 256 + c.val < 4096 := by omega
  obtain ⟨h1, h2⟩ := Block.trip_head v0 carry (arg3.view.readAt (Elt Ideal) (Rect.unit (s := S256x1024) qo S256x128.size qi).toLoadRect X_arg3)
    (arg4.view.readAt (Elt Ideal) (Rect.unit (s := S4096x1024) ko S256x128.size ki).toLoadRect X_arg4)
    (arg5.view.readAt (Elt Ideal) (Rect.unit (s := S4096x1024) ko S256x128.size ki).toLoadRect X_arg5)
    (arg8.view.readAt (Elt Ideal) (Rect.unit (s := S8x256x128) ao S1x256x128.size ai).toLoadRect f) r d P V (kb * 256) t hs.1 hu
    (fun c => by
      rw [← hP ⟨kb * 256 + c.val, hrow c⟩]
      refine Finset.sum_congr rfl fun e _ => congrArg₂ (· * ·) ?_ ?_
      · refine (ld_at arg3.view X_arg3 qo 0 (h.val * 128) hqo qi r e (by omega) (by omega)).trans ?_
        exact congrArg (fun j => arg3.view.read (Elt Ideal) X_arg3 (ix2 j _)) (Fin.ext (Nat.zero_add _))
      · exact ld_at arg4.view X_arg4 ko (kb * 256) (h.val * 128) hko ki c e (hrow c) (by omega))
    (fun c => by
      rw [← hV ⟨kb * 256 + c.val, hrow c⟩]
      exact ld_at arg5.view X_arg5 ko (kb * 256) (h.val * 128) hko ki c d (hrow c) (by omega))
    hc
  exact ⟨h1, h2.trans (congrArg (· + _) (ldAcc_at arg8.view f ao h hao ai r d))⟩

theorem trip_at0 (r : Fin 256) (d : Fin 128) (P : ℕ → ℝ) (V : ℕ → EReal) (kb t : ℕ) (hs : kb * 256 + 256 ≤ t ∧ kb < 16)
    (hkb : (i 2).val - 1 - k.val = kb)
    (hu : ∀ (j : Fin 512) (c : Fin 256), v0 (ix2 j c) = if c.val ≤ j.val % 256 then 1 else 0)
    (hP : ∀ s : Fin 4096, ∑ e : Fin 128, arg3.view.read (Elt Ideal) X_arg3 (ix2 r ⟨(0 : Fin 8).val * 128 + e.val, by omega⟩)
      * arg4.view.read (Elt Ideal) X_arg4 (ix2 s ⟨(0 : Fin 8).val * 128 + e.val, by omega⟩) = ((P s : ℝ) : EReal))
    (hV : ∀ s : Fin 4096, arg5.view.read (Elt Ideal) X_arg5 (ix2 s ⟨(0 : Fin 8).val * 128 + d.val, by omega⟩) = V s)
    (hc : acc.get (0 : Fin 8) (ix2 r 0) = ((between P (kb * 256 + 256) t : ℝ) : EReal)) :
    Carry.get (tripR_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f) (0 : Fin 8) (ix2 r 0) = ((between P (kb * 256) t : ℝ) : EReal)
    ∧ arg8.view.read (Elt Ideal) (arg8.view.writes (Elt Ideal) f (tripL_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f)) (ix3 (0 : Fin 8) r d)
      = arg8.view.read (Elt Ideal) f (ix3 (0 : Fin 8) r d) + ∑ c : Fin 256, ((weight P t (kb * 256 + c.val) : ℝ) : EReal) * V (kb * 256 + c.val) := by
  rw [tripR_eq, tripL_eq, get0, read_head0]
  exact head_case arg3 arg4 arg5 arg8 v0 X_arg3 X_arg4 X_arg5 f 0 r d P V kb t hs hu hP hV _ _ _ rfl ((off9_val i k).trans (by rw [hkb]; rfl)) rfl _ _ _ acc.1 hc

theorem trip_at1 (r : Fin 256) (d : Fin 128) (P : ℕ → ℝ) (V : ℕ → EReal) (kb t : ℕ) (hs : kb * 256 + 256 ≤ t ∧ kb < 16)
    (hkb : (i 2).val - 1 - k.val = kb)
    (hu : ∀ (j : Fin 512) (c : Fin 256), v0 (ix2 j c) = if c.val ≤ j.val % 256 then 1 else 0)
    (hP : ∀ s : Fin 4096, ∑ e : Fin 128, arg3.view.read (Elt Ideal) X_arg3 (ix2 r ⟨(1 : Fin 8).val * 128 + e.val, by omega⟩)
      * arg4.view.read (Elt Ideal) X_arg4 (ix2 s ⟨(1 : Fin 8).val * 128 + e.val, by omega⟩) = ((P s : ℝ) : EReal))
    (hV : ∀ s : Fin 4096, arg5.view.read (Elt Ideal) X_arg5 (ix2 s ⟨(1 : Fin 8).val * 128 + d.val, by omega⟩) = V s)
    (hc : acc.get (1 : Fin 8) (ix2 r 0) = ((between P (kb * 256 + 256) t : ℝ) : EReal)) :
    Carry.get (tripR_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f) (1 : Fin 8) (ix2 r 0) = ((between P (kb * 256) t : ℝ) : EReal)
    ∧ arg8.view.read (Elt Ideal) (arg8.view.writes (Elt Ideal) f (tripL_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f)) (ix3 (1 : Fin 8) r d)
      = arg8.view.read (Elt Ideal) f (ix3 (1 : Fin 8) r d) + ∑ c : Fin 256, ((weight P t (kb * 256 + c.val) : ℝ) : EReal) * V (kb * 256 + c.val) := by
  rw [tripR_eq, tripL_eq, get1, read_head1]
  exact head_case arg3 arg4 arg5 arg8 v0 X_arg3 X_arg4 X_arg5 f 1 r d P V kb t hs hu hP hV _ _ _ rfl ((off10_val i k).trans (by rw [hkb]; rfl)) rfl _ _ _ acc.2.1 hc

theorem trip_at2 (r : Fin 256) (d : Fin 128) (P : ℕ → ℝ) (V : ℕ → EReal) (kb t : ℕ) (hs : kb * 256 + 256 ≤ t ∧ kb < 16)
    (hkb : (i 2).val - 1 - k.val = kb)
    (hu : ∀ (j : Fin 512) (c : Fin 256), v0 (ix2 j c) = if c.val ≤ j.val % 256 then 1 else 0)
    (hP : ∀ s : Fin 4096, ∑ e : Fin 128, arg3.view.read (Elt Ideal) X_arg3 (ix2 r ⟨(2 : Fin 8).val * 128 + e.val, by omega⟩)
      * arg4.view.read (Elt Ideal) X_arg4 (ix2 s ⟨(2 : Fin 8).val * 128 + e.val, by omega⟩) = ((P s : ℝ) : EReal))
    (hV : ∀ s : Fin 4096, arg5.view.read (Elt Ideal) X_arg5 (ix2 s ⟨(2 : Fin 8).val * 128 + d.val, by omega⟩) = V s)
    (hc : acc.get (2 : Fin 8) (ix2 r 0) = ((between P (kb * 256 + 256) t : ℝ) : EReal)) :
    Carry.get (tripR_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f) (2 : Fin 8) (ix2 r 0) = ((between P (kb * 256) t : ℝ) : EReal)
    ∧ arg8.view.read (Elt Ideal) (arg8.view.writes (Elt Ideal) f (tripL_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f)) (ix3 (2 : Fin 8) r d)
      = arg8.view.read (Elt Ideal) f (ix3 (2 : Fin 8) r d) + ∑ c : Fin 256, ((weight P t (kb * 256 + c.val) : ℝ) : EReal) * V (kb * 256 + c.val) := by
  rw [tripR_eq, tripL_eq, get2, read_head2]
  exact head_case arg3 arg4 arg5 arg8 v0 X_arg3 X_arg4 X_arg5 f 2 r d P V kb t hs hu hP hV _ _ _ rfl ((off11_val i k).trans (by rw [hkb]; rfl)) rfl _ _ _ acc.2.2.1 hc

theorem trip_at3 (r : Fin 256) (d : Fin 128) (P : ℕ → ℝ) (V : ℕ → EReal) (kb t : ℕ) (hs : kb * 256 + 256 ≤ t ∧ kb < 16)
    (hkb : (i 2).val - 1 - k.val = kb)
    (hu : ∀ (j : Fin 512) (c : Fin 256), v0 (ix2 j c) = if c.val ≤ j.val % 256 then 1 else 0)
    (hP : ∀ s : Fin 4096, ∑ e : Fin 128, arg3.view.read (Elt Ideal) X_arg3 (ix2 r ⟨(3 : Fin 8).val * 128 + e.val, by omega⟩)
      * arg4.view.read (Elt Ideal) X_arg4 (ix2 s ⟨(3 : Fin 8).val * 128 + e.val, by omega⟩) = ((P s : ℝ) : EReal))
    (hV : ∀ s : Fin 4096, arg5.view.read (Elt Ideal) X_arg5 (ix2 s ⟨(3 : Fin 8).val * 128 + d.val, by omega⟩) = V s)
    (hc : acc.get (3 : Fin 8) (ix2 r 0) = ((between P (kb * 256 + 256) t : ℝ) : EReal)) :
    Carry.get (tripR_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f) (3 : Fin 8) (ix2 r 0) = ((between P (kb * 256) t : ℝ) : EReal)
    ∧ arg8.view.read (Elt Ideal) (arg8.view.writes (Elt Ideal) f (tripL_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f)) (ix3 (3 : Fin 8) r d)
      = arg8.view.read (Elt Ideal) f (ix3 (3 : Fin 8) r d) + ∑ c : Fin 256, ((weight P t (kb * 256 + c.val) : ℝ) : EReal) * V (kb * 256 + c.val) := by
  rw [tripR_eq, tripL_eq, get3, read_head3]
  exact head_case arg3 arg4 arg5 arg8 v0 X_arg3 X_arg4 X_arg5 f 3 r d P V kb t hs hu hP hV _ _ _ rfl ((off12_val i k).trans (by rw [hkb]; rfl)) rfl _ _ _ acc.2.2.2.1 hc

theorem trip_at4 (r : Fin 256) (d : Fin 128) (P : ℕ → ℝ) (V : ℕ → EReal) (kb t : ℕ) (hs : kb * 256 + 256 ≤ t ∧ kb < 16)
    (hkb : (i 2).val - 1 - k.val = kb)
    (hu : ∀ (j : Fin 512) (c : Fin 256), v0 (ix2 j c) = if c.val ≤ j.val % 256 then 1 else 0)
    (hP : ∀ s : Fin 4096, ∑ e : Fin 128, arg3.view.read (Elt Ideal) X_arg3 (ix2 r ⟨(4 : Fin 8).val * 128 + e.val, by omega⟩)
      * arg4.view.read (Elt Ideal) X_arg4 (ix2 s ⟨(4 : Fin 8).val * 128 + e.val, by omega⟩) = ((P s : ℝ) : EReal))
    (hV : ∀ s : Fin 4096, arg5.view.read (Elt Ideal) X_arg5 (ix2 s ⟨(4 : Fin 8).val * 128 + d.val, by omega⟩) = V s)
    (hc : acc.get (4 : Fin 8) (ix2 r 0) = ((between P (kb * 256 + 256) t : ℝ) : EReal)) :
    Carry.get (tripR_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f) (4 : Fin 8) (ix2 r 0) = ((between P (kb * 256) t : ℝ) : EReal)
    ∧ arg8.view.read (Elt Ideal) (arg8.view.writes (Elt Ideal) f (tripL_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f)) (ix3 (4 : Fin 8) r d)
      = arg8.view.read (Elt Ideal) f (ix3 (4 : Fin 8) r d) + ∑ c : Fin 256, ((weight P t (kb * 256 + c.val) : ℝ) : EReal) * V (kb * 256 + c.val) := by
  rw [tripR_eq, tripL_eq, get4, read_head4]
  exact head_case arg3 arg4 arg5 arg8 v0 X_arg3 X_arg4 X_arg5 f 4 r d P V kb t hs hu hP hV _ _ _ rfl ((off13_val i k).trans (by rw [hkb]; rfl)) rfl _ _ _ acc.2.2.2.2.1 hc

theorem trip_at5 (r : Fin 256) (d : Fin 128) (P : ℕ → ℝ) (V : ℕ → EReal) (kb t : ℕ) (hs : kb * 256 + 256 ≤ t ∧ kb < 16)
    (hkb : (i 2).val - 1 - k.val = kb)
    (hu : ∀ (j : Fin 512) (c : Fin 256), v0 (ix2 j c) = if c.val ≤ j.val % 256 then 1 else 0)
    (hP : ∀ s : Fin 4096, ∑ e : Fin 128, arg3.view.read (Elt Ideal) X_arg3 (ix2 r ⟨(5 : Fin 8).val * 128 + e.val, by omega⟩)
      * arg4.view.read (Elt Ideal) X_arg4 (ix2 s ⟨(5 : Fin 8).val * 128 + e.val, by omega⟩) = ((P s : ℝ) : EReal))
    (hV : ∀ s : Fin 4096, arg5.view.read (Elt Ideal) X_arg5 (ix2 s ⟨(5 : Fin 8).val * 128 + d.val, by omega⟩) = V s)
    (hc : acc.get (5 : Fin 8) (ix2 r 0) = ((between P (kb * 256 + 256) t : ℝ) : EReal)) :
    Carry.get (tripR_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f) (5 : Fin 8) (ix2 r 0) = ((between P (kb * 256) t : ℝ) : EReal)
    ∧ arg8.view.read (Elt Ideal) (arg8.view.writes (Elt Ideal) f (tripL_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f)) (ix3 (5 : Fin 8) r d)
      = arg8.view.read (Elt Ideal) f (ix3 (5 : Fin 8) r d) + ∑ c : Fin 256, ((weight P t (kb * 256 + c.val) : ℝ) : EReal) * V (kb * 256 + c.val) := by
  rw [tripR_eq, tripL_eq, get5, read_head5]
  exact head_case arg3 arg4 arg5 arg8 v0 X_arg3 X_arg4 X_arg5 f 5 r d P V kb t hs hu hP hV _ _ _ rfl ((off14_val i k).trans (by rw [hkb]; rfl)) rfl _ _ _ acc.2.2.2.2.2.1 hc

theorem trip_at6 (r : Fin 256) (d : Fin 128) (P : ℕ → ℝ) (V : ℕ → EReal) (kb t : ℕ) (hs : kb * 256 + 256 ≤ t ∧ kb < 16)
    (hkb : (i 2).val - 1 - k.val = kb)
    (hu : ∀ (j : Fin 512) (c : Fin 256), v0 (ix2 j c) = if c.val ≤ j.val % 256 then 1 else 0)
    (hP : ∀ s : Fin 4096, ∑ e : Fin 128, arg3.view.read (Elt Ideal) X_arg3 (ix2 r ⟨(6 : Fin 8).val * 128 + e.val, by omega⟩)
      * arg4.view.read (Elt Ideal) X_arg4 (ix2 s ⟨(6 : Fin 8).val * 128 + e.val, by omega⟩) = ((P s : ℝ) : EReal))
    (hV : ∀ s : Fin 4096, arg5.view.read (Elt Ideal) X_arg5 (ix2 s ⟨(6 : Fin 8).val * 128 + d.val, by omega⟩) = V s)
    (hc : acc.get (6 : Fin 8) (ix2 r 0) = ((between P (kb * 256 + 256) t : ℝ) : EReal)) :
    Carry.get (tripR_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f) (6 : Fin 8) (ix2 r 0) = ((between P (kb * 256) t : ℝ) : EReal)
    ∧ arg8.view.read (Elt Ideal) (arg8.view.writes (Elt Ideal) f (tripL_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f)) (ix3 (6 : Fin 8) r d)
      = arg8.view.read (Elt Ideal) f (ix3 (6 : Fin 8) r d) + ∑ c : Fin 256, ((weight P t (kb * 256 + c.val) : ℝ) : EReal) * V (kb * 256 + c.val) := by
  rw [tripR_eq, tripL_eq, get6, read_head6]
  exact head_case arg3 arg4 arg5 arg8 v0 X_arg3 X_arg4 X_arg5 f 6 r d P V kb t hs hu hP hV _ _ _ rfl ((off15_val i k).trans (by rw [hkb]; rfl)) rfl _ _ _ acc.2.2.2.2.2.2.1 hc

theorem trip_at7 (r : Fin 256) (d : Fin 128) (P : ℕ → ℝ) (V : ℕ → EReal) (kb t : ℕ) (hs : kb * 256 + 256 ≤ t ∧ kb < 16)
    (hkb : (i 2).val - 1 - k.val = kb)
    (hu : ∀ (j : Fin 512) (c : Fin 256), v0 (ix2 j c) = if c.val ≤ j.val % 256 then 1 else 0)
    (hP : ∀ s : Fin 4096, ∑ e : Fin 128, arg3.view.read (Elt Ideal) X_arg3 (ix2 r ⟨(7 : Fin 8).val * 128 + e.val, by omega⟩)
      * arg4.view.read (Elt Ideal) X_arg4 (ix2 s ⟨(7 : Fin 8).val * 128 + e.val, by omega⟩) = ((P s : ℝ) : EReal))
    (hV : ∀ s : Fin 4096, arg5.view.read (Elt Ideal) X_arg5 (ix2 s ⟨(7 : Fin 8).val * 128 + d.val, by omega⟩) = V s)
    (hc : acc.get (7 : Fin 8) (ix2 r 0) = ((between P (kb * 256 + 256) t : ℝ) : EReal)) :
    Carry.get (tripR_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f) (7 : Fin 8) (ix2 r 0) = ((between P (kb * 256) t : ℝ) : EReal)
    ∧ arg8.view.read (Elt Ideal) (arg8.view.writes (Elt Ideal) f (tripL_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f)) (ix3 (7 : Fin 8) r d)
      = arg8.view.read (Elt Ideal) f (ix3 (7 : Fin 8) r d) + ∑ c : Fin 256, ((weight P t (kb * 256 + c.val) : ℝ) : EReal) * V (kb * 256 + c.val) := by
  rw [tripR_eq, tripL_eq, get7, read_head7]
  exact head_case arg3 arg4 arg5 arg8 v0 X_arg3 X_arg4 X_arg5 f 7 r d P V kb t hs hu hP hV _ _ _ rfl ((off16_val i k).trans (by rw [hkb]; rfl)) rfl _ _ _ acc.2.2.2.2.2.2.2 hc

theorem fin8 {Q : Fin 8 → Prop} (h0 : Q 0) (h1 : Q 1) (h2 : Q 2) (h3 : Q 3) (h4 : Q 4) (h5 : Q 5) (h6 : Q 6) (h7 : Q 7) : ∀ h, Q h
  | 0 => h0 | 1 => h1 | 2 => h2 | 3 => h3 | 4 => h4 | 5 => h5 | 6 => h6 | 7 => h7

/-- One trip, one head: the carried column moves down a block, the accumulator takes the block's weighted values. -/
theorem trip_at (h : Fin 8) (r : Fin 256) (d : Fin 128) (P : ℕ → ℝ) (V : ℕ → EReal) (kb t : ℕ) (hs : kb * 256 + 256 ≤ t ∧ kb < 16)
    (hkb : (i 2).val - 1 - k.val = kb)
    (hu : ∀ (j : Fin 512) (c : Fin 256), v0 (ix2 j c) = if c.val ≤ j.val % 256 then 1 else 0)
    (hP : ∀ s : Fin 4096, ∑ e : Fin 128, arg3.view.read (Elt Ideal) X_arg3 (ix2 r ⟨h.val * 128 + e.val, by omega⟩)
      * arg4.view.read (Elt Ideal) X_arg4 (ix2 s ⟨h.val * 128 + e.val, by omega⟩) = ((P s : ℝ) : EReal))
    (hV : ∀ s : Fin 4096, arg5.view.read (Elt Ideal) X_arg5 (ix2 s ⟨h.val * 128 + d.val, by omega⟩) = V s)
    (hc : acc.get h (ix2 r 0) = ((between P (kb * 256 + 256) t : ℝ) : EReal)) :
    Carry.get (tripR_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f) h (ix2 r 0) = ((between P (kb * 256) t : ℝ) : EReal)
    ∧ arg8.view.read (Elt Ideal) (arg8.view.writes (Elt Ideal) f (tripL_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 k acc f)) (ix3 h r d)
      = arg8.view.read (Elt Ideal) f (ix3 h r d) + ∑ c : Fin 256, ((weight P t (kb * 256 + c.val) : ℝ) : EReal) * V (kb * 256 + c.val) := by
  revert h
  exact fin8
    (trip_at0 𝒱 c bd i arg3 harg3 arg4 harg4 arg5 harg5 arg6 harg6 arg7 harg7 arg8 harg8 arg2 v0 v77 v106 v135 v164 v193 v222 v251 v280 v408 v410 v411 v412 X_arg3 X_arg4 X_arg5 k acc f r d P V kb t hs hkb hu)
    (trip_at1 𝒱 c bd i arg3 harg3 arg4 harg4 arg5 harg5 arg6 harg6 arg7 harg7 arg8 harg8 arg2 v0 v77 v106 v135 v164 v193 v222 v251 v280 v408 v410 v411 v412 X_arg3 X_arg4 X_arg5 k acc f r d P V kb t hs hkb hu)
    (trip_at2 𝒱 c bd i arg3 harg3 arg4 harg4 arg5 harg5 arg6 harg6 arg7 harg7 arg8 harg8 arg2 v0 v77 v106 v135 v164 v193 v222 v251 v280 v408 v410 v411 v412 X_arg3 X_arg4 X_arg5 k acc f r d P V kb t hs hkb hu)
    (trip_at3 𝒱 c bd i arg3 harg3 arg4 harg4 arg5 harg5 arg6 harg6 arg7 harg7 arg8 harg8 arg2 v0 v77 v106 v135 v164 v193 v222 v251 v280 v408 v410 v411 v412 X_arg3 X_arg4 X_arg5 k acc f r d P V kb t hs hkb hu)
    (trip_at4 𝒱 c bd i arg3 harg3 arg4 harg4 arg5 harg5 arg6 harg6 arg7 harg7 arg8 harg8 arg2 v0 v77 v106 v135 v164 v193 v222 v251 v280 v408 v410 v411 v412 X_arg3 X_arg4 X_arg5 k acc f r d P V kb t hs hkb hu)
    (trip_at5 𝒱 c bd i arg3 harg3 arg4 harg4 arg5 harg5 arg6 harg6 arg7 harg7 arg8 harg8 arg2 v0 v77 v106 v135 v164 v193 v222 v251 v280 v408 v410 v411 v412 X_arg3 X_arg4 X_arg5 k acc f r d P V kb t hs hkb hu)
    (trip_at6 𝒱 c bd i arg3 harg3 arg4 harg4 arg5 harg5 arg6 harg6 arg7 harg7 arg8 harg8 arg2 v0 v77 v106 v135 v164 v193 v222 v251 v280 v408 v410 v411 v412 X_arg3 X_arg4 X_arg5 k acc f r d P V kb t hs hkb hu)
    (trip_at7 𝒱 c bd i arg3 harg3 arg4 harg4 arg5 harg5 arg6 harg6 arg7 harg7 arg8 harg8 arg2 v0 v77 v106 v135 v164 v193 v222 v251 v280 v408 v410 v411 v412 X_arg3 X_arg4 X_arg5 k acc f r d P V kb t hs hkb hu)

/-- The state before trip `n`, one head: the carried column is the sum of the softplus from that block on, the accumulator
    holds the weighted values of the keys from that block on, past what it held at entry. -/
theorem state_at (h : Fin 8) (r : Fin 256) (d : Fin 128) (P : ℕ → ℝ) (V : ℕ → EReal) (t : ℕ) (ht : t = (i 2).val * 256 + r.val)
    (hu : ∀ (j : Fin 512) (c : Fin 256), v0 (ix2 j c) = if c.val ≤ j.val % 256 then 1 else 0)
    (hP : ∀ s : Fin 4096, ∑ e : Fin 128, arg3.view.read (Elt Ideal) X_arg3 (ix2 r ⟨h.val * 128 + e.val, by omega⟩)
      * arg4.view.read (Elt Ideal) X_arg4 (ix2 s ⟨h.val * 128 + e.val, by omega⟩) = ((P s : ℝ) : EReal))
    (hV : ∀ s : Fin 4096, arg5.view.read (Elt Ideal) X_arg5 (ix2 s ⟨h.val * 128 + d.val, by omega⟩) = V s)
    (hc : acc.get h (ix2 r 0) = ((between P ((i 2).val * 256) t : ℝ) : EReal)) (n : ℕ) (hn : n ≤ (i 2).val) :
    Carry.get (st_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 f acc n).1 h (ix2 r 0)
      = ((between P (((i 2).val - n) * 256) t : ℝ) : EReal)
    ∧ arg8.view.read (Elt Ideal) (arg8.view.writes (Elt Ideal) f (st_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 f acc n).2) (ix3 h r d)
      = arg8.view.read (Elt Ideal) f (ix3 h r d)
        + ∑ j ∈ Finset.Ico (((i 2).val - n) * 256) ((i 2).val * 256), ((weight P t j : ℝ) : EReal) * V j := by
  have hi : (i 2).val < 16 := (i 2).isLt
  induction n with
  | zero => exact ⟨hc, by rw [Nat.sub_zero, Finset.Ico_self, Finset.sum_empty, add_zero]; rfl⟩
  | succ n ih =>
    obtain ⟨ih1, ih2⟩ := ih (by omega)
    have hk : n < (k0_t1_loop i).trips := lt_of_lt_of_eq (by omega) (trips_eq (i 2)).symm
    have hkb : (i 2).val - 1 - n = (i 2).val - (n + 1) := by omega
    have hsucc : ((i 2).val - (n + 1)) * 256 + 256 = ((i 2).val - n) * 256 := by omega
    rw [st_k0_t1_succ (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 f acc ⟨n, hk⟩, View.writes_append]
    obtain ⟨h1, h2⟩ := trip_at 𝒱 c bd i arg3 harg3 arg4 harg4 arg5 harg5 arg6 harg6 arg7 harg7 arg8 harg8 arg2 v0 v77 v106 v135 v164 v193 v222 v251 v280 v408 v410 v411 v412 X_arg3 X_arg4 X_arg5 ⟨n, hk⟩ (st_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 f acc n).1
      (arg8.view.writes (Elt Ideal) f (st_k0_t1 (F := Ideal) 𝒱 c bd i arg3 harg3 arg4 harg4 arg5 harg5 arg6 harg6 arg7 harg7 arg8 harg8 arg2 v0 v77 v106 v135 v164 v193 v222 v251 v280 v408 v410 v411 v412 X_arg3 X_arg4 X_arg5 f acc n).2) h r d P V ((i 2).val - (n + 1)) t
      ⟨by omega, by omega⟩ hkb hu hP hV (by rw [hsucc]; exact ih1)
    refine ⟨h1, h2.trans ?_⟩
    rw [ih2, add_assoc, Fin.sum_univ_eq_sum_range (fun c => ((weight P t (((i 2).val - (n + 1)) * 256 + c) : ℝ) : EReal)
      * V (((i 2).val - (n + 1)) * 256 + c)) 256]
    refine congrArg _ ?_
    rw [← Finset.sum_Ico_consecutive _ (show ((i 2).val - (n + 1)) * 256 ≤ ((i 2).val - n) * 256 by omega)
      (show ((i 2).val - n) * 256 ≤ (i 2).val * 256 by omega), add_comm, Finset.sum_Ico_eq_sum_range (n := ((i 2).val - n) * 256)]
    refine congrArg (· + _) (Finset.sum_congr ?_ fun _ _ => rfl)
    rw [← hsucc, Nat.add_sub_cancel_left]

end Cert.KernelIdeal.Trip

end
-- ==== Proof.Diag.lean ====
/- The block on the diagonal, with which every query block begins: the carried columns and the accumulators it leaves. -/
module

public import proofs.«01_k».proof.Proof.Gen.KernelIdeal.Value
public import Idealize.ShloMosaic.Lib.Pipeline.ValueKit
public import Idealize.ShloMosaic.Lib.WritesUnit
public import Idealize.ShloMosaic.Lib.WordCmp
public import proofs.«01_k».proof.Proof.Trip

@[expose] public section

set_option maxRecDepth 16384

noncomputable section

namespace Cert.KernelIdeal.Trip

open Cert.KernelIdeal Cert.KernelIdeal.Gen Idealize.ShloMosaic Idealize.ShloMosaic.TcCoe Idealize.SL.Sem
open Cert.KernelIdeal.Facts
open Cert.Proof.Stick

variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S512x256 .bf16) (harg6 : arg6.IsWhole) (arg7 : Memref sig .tc .vmem S256x1024 .bf16) (harg7 : arg7.IsWhole) (arg8 : Memref sig .tc .vmem S8x256x128 .f32) (harg8 : arg8.IsWhole) (x0 : Vec Ideal S256x1024 .bf16) (x1 : Vec Ideal S4096x1024 .bf16) (x2 : Vec Ideal S4096x1024 .bf16) (x3 : Vec Ideal S512x256 .bf16)

theorem carry0_eq : kernelRun0_A.sl.r_10 (F := Ideal) c i arg3 harg3 arg4 harg4 arg6 harg6 x0 x1 x3
    = k0_pay121 (kernelRun0_A.sl.v1 (F := Ideal) c arg6 harg6 x3) k0_pay99 (k0_pay1 (arg3.view.readAt (Elt Ideal) (Rect.unit (s := S256x1024) ![0, 0] S256x128.size inb_S256x1024_S256x128_0_0).toLoadRect (harg3.unread x0))
      (arg4.view.readAt (Elt Ideal) (Rect.unit (s := S4096x1024) (k0_off1 i) S256x128.size (k0_off1_inb i)).toLoadRect (harg4.unread x1))) := rfl

theorem carry1_eq : kernelRun0_A.sl.r_12 (F := Ideal) c i arg3 harg3 arg4 harg4 arg6 harg6 x0 x1 x3
    = k0_pay121 (kernelRun0_A.sl.v1 (F := Ideal) c arg6 harg6 x3) k0_pay99 (k0_pay1 (arg3.view.readAt (Elt Ideal) (Rect.unit (s := S256x1024) ![0, 128] S256x128.size inb_S256x1024_S256x128_0_128).toLoadRect (harg3.unread x0))
      (arg4.view.readAt (Elt Ideal) (Rect.unit (s := S4096x1024) (k0_off2 i) S256x128.size (k0_off2_inb i)).toLoadRect (harg4.unread x1))) := rfl

theorem carry2_eq : kernelRun0_A.sl.r_15 (F := Ideal) c i arg3 harg3 arg4 harg4 arg6 harg6 x0 x1 x3
    = k0_pay121 (kernelRun0_A.sl.v1 (F := Ideal) c arg6 harg6 x3) k0_pay99 (k0_pay1 (arg3.view.readAt (Elt Ideal) (Rect.unit (s := S256x1024) ![0, 256] S256x128.size inb_S256x1024_S256x128_0_256).toLoadRect (harg3.unread x0))
      (arg4.view.readAt (Elt Ideal) (Rect.unit (s := S4096x1024) (k0_off3 i) S256x128.size (k0_off3_inb i)).toLoadRect (harg4.unread x1))) := rfl

theorem carry3_eq : kernelRun0_A.sl.r_18 (F := Ideal) c i arg3 harg3 arg4 harg4 arg6 harg6 x0 x1 x3
    = k0_pay121 (kernelRun0_A.sl.v1 (F := Ideal) c arg6 harg6 x3) k0_pay99 (k0_pay1 (arg3.view.readAt (Elt Ideal) (Rect.unit (s := S256x1024) ![0, 384] S256x128.size inb_S256x1024_S256x128_0_384).toLoadRect (harg3.unread x0))
      (arg4.view.readAt (Elt Ideal) (Rect.unit (s := S4096x1024) (k0_off4 i) S256x128.size (k0_off4_inb i)).toLoadRect (harg4.unread x1))) := rfl

theorem carry4_eq : kernelRun0_A.sl.r_20 (F := Ideal) c i arg3 harg3 arg4 harg4 arg6 harg6 x0 x1 x3
    = k0_pay121 (kernelRun0_A.sl.v1 (F := Ideal) c arg6 harg6 x3) k0_pay99 (k0_pay1 (arg3.view.readAt (Elt Ideal) (Rect.unit (s := S256x1024) ![0, 512] S256x128.size inb_S256x1024_S256x128_0_512).toLoadRect (harg3.unread x0))
      (arg4.view.readAt (Elt Ideal) (Rect.unit (s := S4096x1024) (k0_off5 i) S256x128.size (k0_off5_inb i)).toLoadRect (harg4.unread x1))) := rfl

theorem carry5_eq : kernelRun0_A.sl.r_23 (F := Ideal) c i arg3 harg3 arg4 harg4 arg6 harg6 x0 x1 x3
    = k0_pay121 (kernelRun0_A.sl.v1 (F := Ideal) c arg6 harg6 x3) k0_pay99 (k0_pay1 (arg3.view.readAt (Elt Ideal) (Rect.unit (s := S256x1024) ![0, 640] S256x128.size inb_S256x1024_S256x128_0_640).toLoadRect (harg3.unread x0))
      (arg4.view.readAt (Elt Ideal) (Rect.unit (s := S4096x1024) (k0_off6 i) S256x128.size (k0_off6_inb i)).toLoadRect (harg4.unread x1))) := rfl

theorem carry6_eq : kernelRun0_A.sl.r_25 (F := Ideal) c i arg3 harg3 arg4 harg4 arg6 harg6 x0 x1 x3
    = k0_pay121 (kernelRun0_A.sl.v1 (F := Ideal) c arg6 harg6 x3) k0_pay99 (k0_pay1 (arg3.view.readAt (Elt Ideal) (Rect.unit (s := S256x1024) ![0, 768] S256x128.size inb_S256x1024_S256x128_0_768).toLoadRect (harg3.unread x0))
      (arg4.view.readAt (Elt Ideal) (Rect.unit (s := S4096x1024) (k0_off7 i) S256x128.size (k0_off7_inb i)).toLoadRect (harg4.unread x1))) := rfl

theorem carry7_eq : kernelRun0_A.sl.r_28 (F := Ideal) c i arg3 harg3 arg4 harg4 arg6 harg6 x0 x1 x3
    = k0_pay121 (kernelRun0_A.sl.v1 (F := Ideal) c arg6 harg6 x3) k0_pay99 (k0_pay1 (arg3.view.readAt (Elt Ideal) (Rect.unit (s := S256x1024) ![0, 896] S256x128.size inb_S256x1024_S256x128_0_896).toLoadRect (harg3.unread x0))
      (arg4.view.readAt (Elt Ideal) (Rect.unit (s := S4096x1024) (k0_off8 i) S256x128.size (k0_off8_inb i)).toLoadRect (harg4.unread x1))) := rfl

theorem stores0_eq : kernelRun0_A.sl.HS0_2 (F := Ideal) c i arg3 harg3 arg4 harg4 arg5 harg5 arg6 harg6 arg8 x0 x1 x2 x3
    = ⟨(Rect.unit (s := S8x256x128) ![0, 0, 0] S1x256x128.size inb_S8x256x128_S1x256x128_0_0_0), k0_pay147 (k0_pay120 (kernelRun0_A.sl.v1 (F := Ideal) c arg6 harg6 x3) k0_pay99 (k0_pay1 (arg3.view.readAt (Elt Ideal) (Rect.unit (s := S256x1024) ![0, 0] S256x128.size inb_S256x1024_S256x128_0_0).toLoadRect (harg3.unread x0))
        (arg4.view.readAt (Elt Ideal) (Rect.unit (s := S4096x1024) (k0_off1 i) S256x128.size (k0_off1_inb i)).toLoadRect (harg4.unread x1))))
        (arg5.view.readAt (Elt Ideal) (Rect.unit (s := S4096x1024) (k0_off1 i) S256x128.size (k0_off1_inb i)).toLoadRect (harg5.unread x2))
        (View.readCov (Val := Elt Ideal) arg8.view [(⟨Rect.unit (s := S8x256x128) ![0, 0, 0] S8x256x128.size inb_S8x256x128_S8x256x128_0_0_0, k0_pay98 (F := Ideal)⟩ : View.Piece (Elt Ideal) S8x256x128 .f32)] (Rect.unit (s := S8x256x128) ![0, 0, 0] S1x256x128.size inb_S8x256x128_S1x256x128_0_0_0).toLoadRect)⟩
      :: [(⟨Rect.unit (s := S8x256x128) ![0, 0, 0] S8x256x128.size inb_S8x256x128_S8x256x128_0_0_0, k0_pay98 (F := Ideal)⟩ : View.Piece (Elt Ideal) S8x256x128 .f32)] := rfl

theorem stores1_eq : kernelRun0_A.sl.HS0_3 (F := Ideal) c i arg3 harg3 arg4 harg4 arg5 harg5 arg6 harg6 arg8 x0 x1 x2 x3
    = ⟨(Rect.unit (s := S8x256x128) ![1, 0, 0] S1x256x128.size inb_S8x256x128_S1x256x128_1_0_0), k0_pay147 (k0_pay120 (kernelRun0_A.sl.v1 (F := Ideal) c arg6 harg6 x3) k0_pay99 (k0_pay1 (arg3.view.readAt (Elt Ideal) (Rect.unit (s := S256x1024) ![0, 128] S256x128.size inb_S256x1024_S256x128_0_128).toLoadRect (harg3.unread x0))
        (arg4.view.readAt (Elt Ideal) (Rect.unit (s := S4096x1024) (k0_off2 i) S256x128.size (k0_off2_inb i)).toLoadRect (harg4.unread x1))))
        (arg5.view.readAt (Elt Ideal) (Rect.unit (s := S4096x1024) (k0_off2 i) S256x128.size (k0_off2_inb i)).toLoadRect (harg5.unread x2))
        (View.readCov (Val := Elt Ideal) arg8.view (kernelRun0_A.sl.HS0_2 (F := Ideal) c i arg3 harg3 arg4 harg4 arg5 harg5 arg6 harg6 arg8 x0 x1 x2 x3) (Rect.unit (s := S8x256x128) ![1, 0, 0] S1x256x128.size inb_S8x256x128_S1x256x128_1_0_0).toLoadRect)⟩
      :: (kernelRun0_A.sl.HS0_2 (F := Ideal) c i arg3 harg3 arg4 harg4 arg5 harg5 arg6 harg6 arg8 x0 x1 x2 x3) := rfl

theorem stores2_eq : kernelRun0_A.sl.HS0_4 (F := Ideal) c i arg3 harg3 arg4 harg4 arg5 harg5 arg6 harg6 arg8 x0 x1 x2 x3
    = ⟨(Rect.unit (s := S8x256x128) ![2, 0, 0] S1x256x128.size inb_S8x256x128_S1x256x128_2_0_0), k0_pay147 (k0_pay120 (kernelRun0_A.sl.v1 (F := Ideal) c arg6 harg6 x3) k0_pay99 (k0_pay1 (arg3.view.readAt (Elt Ideal) (Rect.unit (s := S256x1024) ![0, 256] S256x128.size inb_S256x1024_S256x128_0_256).toLoadRect (harg3.unread x0))
        (arg4.view.readAt (Elt Ideal) (Rect.unit (s := S4096x1024) (k0_off3 i) S256x128.size (k0_off3_inb i)).toLoadRect (harg4.unread x1))))
        (arg5.view.readAt (Elt Ideal) (Rect.unit (s := S4096x1024) (k0_off3 i) S256x128.size (k0_off3_inb i)).toLoadRect (harg5.unread x2))
        (View.readCov (Val := Elt Ideal) arg8.view (kernelRun0_A.sl.HS0_3 (F := Ideal) c i arg3 harg3 arg4 harg4 arg5 harg5 arg6 harg6 arg8 x0 x1 x2 x3) (Rect.unit (s := S8x256x128) ![2, 0, 0] S1x256x128.size inb_S8x256x128_S1x256x128_2_0_0).toLoadRect)⟩
      :: (kernelRun0_A.sl.HS0_3 (F := Ideal) c i arg3 harg3 arg4 harg4 arg5 harg5 arg6 harg6 arg8 x0 x1 x2 x3) := rfl

theorem stores3_eq : kernelRun0_A.sl.HS0_5 (F := Ideal) c i arg3 harg3 arg4 harg4 arg5 harg5 arg6 harg6 arg8 x0 x1 x2 x3
    = ⟨(Rect.unit (s := S8x256x128) ![3, 0, 0] S1x256x128.size inb_S8x256x128_S1x256x128_3_0_0), k0_pay147 (k0_pay120 (kernelRun0_A.sl.v1 (F := Ideal) c arg6 harg6 x3) k0_pay99 (k0_pay1 (arg3.view.readAt (Elt Ideal) (Rect.unit (s := S256x1024) ![0, 384] S256x128.size inb_S256x1024_S256x128_0_384).toLoadRect (harg3.unread x0))
        (arg4.view.readAt (Elt Ideal) (Rect.unit (s := S4096x1024) (k0_off4 i) S256x128.size (k0_off4_inb i)).toLoadRect (harg4.unread x1))))
        (arg5.view.readAt (Elt Ideal) (Rect.unit (s := S4096x1024) (k0_off4 i) S256x128.size (k0_off4_inb i)).toLoadRect (harg5.unread x2))
        (View.readCov (Val := Elt Ideal) arg8.view (kernelRun0_A.sl.HS0_4 (F := Ideal) c i arg3 harg3 arg4 harg4 arg5 harg5 arg6 harg6 arg8 x0 x1 x2 x3) (Rect.unit (s := S8x256x128) ![3, 0, 0] S1x256x128.size inb_S8x256x128_S1x256x128_3_0_0).toLoadRect)⟩
      :: (kernelRun0_A.sl.HS0_4 (F := Ideal) c i arg3 harg3 arg4 harg4 arg5 harg5 arg6 harg6 arg8 x0 x1 x2 x3) := rfl

theorem stores4_eq : kernelRun0_A.sl.HS0_6 (F := Ideal) c i arg3 harg3 arg4 harg4 arg5 harg5 arg6 harg6 arg8 x0 x1 x2 x3
    = ⟨(Rect.unit (s := S8x256x128) ![4, 0, 0] S1x256x128.size inb_S8x256x128_S1x256x128_4_0_0), k0_pay147 (k0_pay120 (kernelRun0_A.sl.v1 (F := Ideal) c arg6 harg6 x3) k0_pay99 (k0_pay1 (arg3.view.readAt (Elt Ideal) (Rect.unit (s := S256x1024) ![0, 512] S256x128.size inb_S256x1024_S256x128_0_512).toLoadRect (harg3.unread x0))
        (arg4.view.readAt (Elt Ideal) (Rect.unit (s := S4096x1024) (k0_off5 i) S256x128.size (k0_off5_inb i)).toLoadRect (harg4.unread x1))))
        (arg5.view.readAt (Elt Ideal) (Rect.unit (s := S4096x1024) (k0_off5 i) S256x128.size (k0_off5_inb i)).toLoadRect (harg5.unread x2))
        (View.readCov (Val := Elt Ideal) arg8.view (kernelRun0_A.sl.HS0_5 (F := Ideal) c i arg3 harg3 arg4 harg4 arg5 harg5 arg6 harg6 arg8 x0 x1 x2 x3) (Rect.unit (s := S8x256x128) ![4, 0, 0] S1x256x128.size inb_S8x256x128_S1x256x128_4_0_0).toLoadRect)⟩
      :: (kernelRun0_A.sl.HS0_5 (F := Ideal) c i arg3 harg3 arg4 harg4 arg5 harg5 arg6 harg6 arg8 x0 x1 x2 x3) := rfl

theorem stores5_eq : kernelRun0_A.sl.HS0_7 (F := Ideal) c i arg3 harg3 arg4 harg4 arg5 harg5 arg6 harg6 arg8 x0 x1 x2 x3
    = ⟨(Rect.unit (s := S8x256x128) ![5, 0, 0] S1x256x128.size inb_S8x256x128_S1x256x128_5_0_0), k0_pay147 (k0_pay120 (kernelRun0_A.sl.v1 (F := Ideal) c arg6 harg6 x3) k0_pay99 (k0_pay1 (arg3.view.readAt (Elt Ideal) (Rect.unit (s := S256x1024) ![0, 640] S256x128.size inb_S256x1024_S256x128_0_640).toLoadRect (harg3.unread x0))
        (arg4.view.readAt (Elt Ideal) (Rect.unit (s := S4096x1024) (k0_off6 i) S256x128.size (k0_off6_inb i)).toLoadRect (harg4.unread x1))))
        (arg5.view.readAt (Elt Ideal) (Rect.unit (s := S4096x1024) (k0_off6 i) S256x128.size (k0_off6_inb i)).toLoadRect (harg5.unread x2))
        (View.readCov (Val := Elt Ideal) arg8.view (kernelRun0_A.sl.HS0_6 (F := Ideal) c i arg3 harg3 arg4 harg4 arg5 harg5 arg6 harg6 arg8 x0 x1 x2 x3) (Rect.unit (s := S8x256x128) ![5, 0, 0] S1x256x128.size inb_S8x256x128_S1x256x128_5_0_0).toLoadRect)⟩
      :: (kernelRun0_A.sl.HS0_6 (F := Ideal) c i arg3 harg3 arg4 harg4 arg5 harg5 arg6 harg6 arg8 x0 x1 x2 x3) := rfl

theorem stores6_eq : kernelRun0_A.sl.HS0_8 (F := Ideal) c i arg3 harg3 arg4 harg4 arg5 harg5 arg6 harg6 arg8 x0 x1 x2 x3
    = ⟨(Rect.unit (s := S8x256x128) ![6, 0, 0] S1x256x128.size inb_S8x256x128_S1x256x128_6_0_0), k0_pay147 (k0_pay120 (kernelRun0_A.sl.v1 (F := Ideal) c arg6 harg6 x3) k0_pay99 (k0_pay1 (arg3.view.readAt (Elt Ideal) (Rect.unit (s := S256x1024) ![0, 768] S256x128.size inb_S256x1024_S256x128_0_768).toLoadRect (harg3.unread x0))
        (arg4.view.readAt (Elt Ideal) (Rect.unit (s := S4096x1024) (k0_off7 i) S256x128.size (k0_off7_inb i)).toLoadRect (harg4.unread x1))))
        (arg5.view.readAt (Elt Ideal) (Rect.unit (s := S4096x1024) (k0_off7 i) S256x128.size (k0_off7_inb i)).toLoadRect (harg5.unread x2))
        (View.readCov (Val := Elt Ideal) arg8.view (kernelRun0_A.sl.HS0_7 (F := Ideal) c i arg3 harg3 arg4 harg4 arg5 harg5 arg6 harg6 arg8 x0 x1 x2 x3) (Rect.unit (s := S8x256x128) ![6, 0, 0] S1x256x128.size inb_S8x256x128_S1x256x128_6_0_0).toLoadRect)⟩
      :: (kernelRun0_A.sl.HS0_7 (F := Ideal) c i arg3 harg3 arg4 harg4 arg5 harg5 arg6 harg6 arg8 x0 x1 x2 x3) := rfl

theorem stores7_eq : kernelRun0_A.sl.HS0_9 (F := Ideal) c i arg3 harg3 arg4 harg4 arg5 harg5 arg6 harg6 arg8 x0 x1 x2 x3
    = ⟨(Rect.unit (s := S8x256x128) ![7, 0, 0] S1x256x128.size inb_S8x256x128_S1x256x128_7_0_0), k0_pay147 (k0_pay120 (kernelRun0_A.sl.v1 (F := Ideal) c arg6 harg6 x3) k0_pay99 (k0_pay1 (arg3.view.readAt (Elt Ideal) (Rect.unit (s := S256x1024) ![0, 896] S256x128.size inb_S256x1024_S256x128_0_896).toLoadRect (harg3.unread x0))
        (arg4.view.readAt (Elt Ideal) (Rect.unit (s := S4096x1024) (k0_off8 i) S256x128.size (k0_off8_inb i)).toLoadRect (harg4.unread x1))))
        (arg5.view.readAt (Elt Ideal) (Rect.unit (s := S4096x1024) (k0_off8 i) S256x128.size (k0_off8_inb i)).toLoadRect (harg5.unread x2))
        (View.readCov (Val := Elt Ideal) arg8.view (kernelRun0_A.sl.HS0_8 (F := Ideal) c i arg3 harg3 arg4 harg4 arg5 harg5 arg6 harg6 arg8 x0 x1 x2 x3) (Rect.unit (s := S8x256x128) ![7, 0, 0] S1x256x128.size inb_S8x256x128_S1x256x128_7_0_0).toLoadRect)⟩
      :: (kernelRun0_A.sl.HS0_8 (F := Ideal) c i arg3 harg3 arg4 harg4 arg5 harg5 arg6 harg6 arg8 x0 x1 x2 x3) := rfl

theorem diag_word : ∀ q : Fin 16, (Scalar.indexCast (Scalar.muli (BitVec.ofNat 32 q.val) 256#32) : Index).toNat = q.val * 256 := by
  decide +kernel

theorem off1_val (i : grid0.Coords) : k0_off1 i = ![(i 2).val * 256, ((0 : Fin 8).val) * 128] := by
  have := diag_word ⟨(i 2).val, (i 2).isLt⟩
  unfold k0_off1
  exact congrArg (fun n => ![n, 0]) this

theorem off2_val (i : grid0.Coords) : k0_off2 i = ![(i 2).val * 256, ((1 : Fin 8).val) * 128] := by
  have := diag_word ⟨(i 2).val, (i 2).isLt⟩
  unfold k0_off2
  exact congrArg (fun n => ![n, 128]) this

theorem off3_val (i : grid0.Coords) : k0_off3 i = ![(i 2).val * 256, ((2 : Fin 8).val) * 128] := by
  have := diag_word ⟨(i 2).val, (i 2).isLt⟩
  unfold k0_off3
  exact congrArg (fun n => ![n, 256]) this

theorem off4_val (i : grid0.Coords) : k0_off4 i = ![(i 2).val * 256, ((3 : Fin 8).val) * 128] := by
  have := diag_word ⟨(i 2).val, (i 2).isLt⟩
  unfold k0_off4
  exact congrArg (fun n => ![n, 384]) this

theorem off5_val (i : grid0.Coords) : k0_off5 i = ![(i 2).val * 256, ((4 : Fin 8).val) * 128] := by
  have := diag_word ⟨(i 2).val, (i 2).isLt⟩
  unfold k0_off5
  exact congrArg (fun n => ![n, 512]) this

theorem off6_val (i : grid0.Coords) : k0_off6 i = ![(i 2).val * 256, ((5 : Fin 8).val) * 128] := by
  have := diag_word ⟨(i 2).val, (i 2).isLt⟩
  unfold k0_off6
  exact congrArg (fun n => ![n, 640]) this

theorem off7_val (i : grid0.Coords) : k0_off7 i = ![(i 2).val * 256, ((6 : Fin 8).val) * 128] := by
  have := diag_word ⟨(i 2).val, (i 2).isLt⟩
  unfold k0_off7
  exact congrArg (fun n => ![n, 768]) this

theorem off8_val (i : grid0.Coords) : k0_off8 i = ![(i 2).val * 256, ((7 : Fin 8).val) * 128] := by
  have := diag_word ⟨(i 2).val, (i 2).isLt⟩
  unfold k0_off8
  exact congrArg (fun n => ![n, 896]) this

theorem zero_carry (r : Fin 256) : k0_pay99 (F := Ideal) (ix2 r 0) = 0 := by
  pointwise [k0_pay99]

theorem zero_acc (h : Fin 8) (r : Fin 256) (d : Fin 128) : k0_pay98 (F := Ideal) (ix3 h r d) = 0 := by
  pointwise [k0_pay98]

/-- A store of another head's accumulator leaves this head's. -/
theorem miss (v : View sig .tc .vmem S8x256x128 .f32) (X : v.ty.Contents (Elt Ideal)) (n : ℕ) (h : Fin 8) (hn : n ≠ h.val)
    (inb : ∀ x : Fin 3, (![n, 0, 0] : Fin 3 → ℕ) x + S1x256x128.size x ≤ S8x256x128.size x) (w : Vec Ideal S1x256x128 .f32)
    (L : List (View.Piece (Elt Ideal) S8x256x128 .f32)) (r : Fin 256) (d : Fin 128) :
    v.read (Elt Ideal) (v.writes (Elt Ideal) X (⟨Rect.unit (s := S8x256x128) ![n, 0, 0] S1x256x128.size inb, w⟩ :: L)) (ix3 h r d)
      = v.read (Elt Ideal) (v.writes (Elt Ideal) X L) (ix3 h r d) := by
  refine View.read_writes_cons_unit_of_not_mem v X inb w L (ix3 h r d) rfl (0 : Fin 3) ?_
  rcases Nat.lt_or_gt_of_ne hn with hlt | hgt
  · exact Or.inr hlt
  · exact Or.inl hgt

/-- A store of this head's accumulator, read back. -/
theorem hit (v : View sig .tc .vmem S8x256x128 .f32) (X : v.ty.Contents (Elt Ideal)) (n : ℕ) (h : Fin 8) (hn : n = h.val)
    (inb : ∀ x : Fin 3, (![n, 0, 0] : Fin 3 → ℕ) x + S1x256x128.size x ≤ S8x256x128.size x) (w : Vec Ideal S1x256x128 .f32)
    (L : List (View.Piece (Elt Ideal) S8x256x128 .f32)) (r : Fin 256) (d : Fin 128) :
    v.read (Elt Ideal) (v.writes (Elt Ideal) X (⟨Rect.unit (s := S8x256x128) ![n, 0, 0] S1x256x128.size inb, w⟩ :: L)) (ix3 h r d)
      = w (ix3 0 r d) := by
  refine View.read_writes_cons_unit_of_mem v X inb w L (ix3 h r d) (ix3 0 r d) rfl fun x => ?_
  match x with
  | ⟨0, _⟩ => exact hn.symm
  | ⟨1, _⟩ => exact (Nat.zero_add _).symm
  | ⟨2, _⟩ => exact (Nat.zero_add _).symm

/-- The accumulators start as zeros. -/
theorem fill_at (v : View sig .tc .vmem S8x256x128 .f32) (X : v.ty.Contents (Elt Ideal)) (h : Fin 8) (r : Fin 256) (d : Fin 128) :
    v.read (Elt Ideal) (v.writes (Elt Ideal) X [(⟨Rect.unit (s := S8x256x128) ![0, 0, 0] S8x256x128.size inb_S8x256x128_S8x256x128_0_0_0, k0_pay98 (F := Ideal)⟩ : View.Piece (Elt Ideal) S8x256x128 .f32)]) (ix3 h r d) = 0 := by
  refine (View.read_writes_cons_unit_of_mem v X _ _ [] (ix3 h r d) (ix3 h r d) rfl fun x => ?_).trans (zero_acc h r d)
  match x with
  | ⟨0, _⟩ => exact (Nat.zero_add _).symm
  | ⟨1, _⟩ => exact (Nat.zero_add _).symm
  | ⟨2, _⟩ => exact (Nat.zero_add _).symm

/-- One head of the diagonal block, from the windows' blocks. -/
theorem diag_case (u : Vec Ideal S512x256 .bf16)
    (h : Fin 8) (r : Fin 256) (d : Fin 128) (P : ℕ → ℝ) (V : ℕ → EReal)
    (hu : ∀ (j : Fin 512) (c : Fin 256), u (ix2 j c) = if c.val ≤ j.val % 256 then 1 else 0)
    (hP : ∀ s : Fin 4096, ∑ e : Fin 128, x0 (ix2 r ⟨h.val * 128 + e.val, by omega⟩) * x1 (ix2 s ⟨h.val * 128 + e.val, by omega⟩) = ((P s : ℝ) : EReal))
    (hV : ∀ s : Fin 4096, x2 (ix2 s ⟨h.val * 128 + d.val, by omega⟩) = V s)
    (qo ko : Fin 2 → ℕ) (hqo : qo = ![0, h.val * 128]) (hko : ko = ![(i 2).val * 256, h.val * 128])
    (qi : ∀ x : Fin 2, qo x + S256x128.size x ≤ S256x1024.size x) (ki : ∀ x : Fin 2, ko x + S256x128.size x ≤ S4096x1024.size x)
    (a : Vec Ideal S1x256x128 .f32) (ha : a (ix3 0 r d) = 0) :
    k0_pay121 (F := Ideal) u k0_pay99 (k0_pay1 (arg3.view.readAt (Elt Ideal) (Rect.unit (s := S256x1024) qo S256x128.size qi).toLoadRect (harg3.unread x0))
        (arg4.view.readAt (Elt Ideal) (Rect.unit (s := S4096x1024) ko S256x128.size ki).toLoadRect (harg4.unread x1))) (ix2 r 0)
      = ((between P ((i 2).val * 256) ((i 2).val * 256 + r.val) : ℝ) : EReal)
    ∧ k0_pay147 (F := Ideal) (k0_pay120 u k0_pay99 (k0_pay1 (arg3.view.readAt (Elt Ideal) (Rect.unit (s := S256x1024) qo S256x128.size qi).toLoadRect (harg3.unread x0))
          (arg4.view.readAt (Elt Ideal) (Rect.unit (s := S4096x1024) ko S256x128.size ki).toLoadRect (harg4.unread x1))))
        (arg5.view.readAt (Elt Ideal) (Rect.unit (s := S4096x1024) ko S256x128.size ki).toLoadRect (harg5.unread x2)) a (ix3 0 r d)
      = ∑ c : Fin 256, ((weight P ((i 2).val * 256 + r.val) ((i 2).val * 256 + c.val) : ℝ) : EReal) * V ((i 2).val * 256 + c.val) := by
  have hi : (i 2).val < 16 := (i 2).isLt
  have hrow (c : Fin 256) : (i 2).val * 256 + c.val < 4096 := by omega
  obtain ⟨h1, h2⟩ := Block.diag_head u k0_pay99 (arg3.view.readAt (Elt Ideal) (Rect.unit (s := S256x1024) qo S256x128.size qi).toLoadRect (harg3.unread x0))
    (arg4.view.readAt (Elt Ideal) (Rect.unit (s := S4096x1024) ko S256x128.size ki).toLoadRect (harg4.unread x1))
    (arg5.view.readAt (Elt Ideal) (Rect.unit (s := S4096x1024) ko S256x128.size ki).toLoadRect (harg5.unread x2)) a r d P V ((i 2).val * 256) hu
    (fun c => by
      rw [← hP ⟨(i 2).val * 256 + c.val, hrow c⟩]
      refine Finset.sum_congr rfl fun e _ => congrArg₂ (· * ·) ?_ ?_
      · rw [ld_at arg3.view (harg3.unread x0) qo 0 (h.val * 128) hqo qi r e (by omega) (by omega), Memref.IsWhole.read_unread]
        exact congrArg (fun n => x0 (ix2 n _)) (Fin.ext (Nat.zero_add _))
      · rw [ld_at arg4.view (harg4.unread x1) ko ((i 2).val * 256) (h.val * 128) hko ki c e (hrow c) (by omega), Memref.IsWhole.read_unread])
    (fun c => by
      rw [ld_at arg5.view (harg5.unread x2) ko ((i 2).val * 256) (h.val * 128) hko ki c d (hrow c) (by omega), Memref.IsWhole.read_unread]
      exact hV ⟨(i 2).val * 256 + c.val, hrow c⟩)
    (zero_carry r)
  exact ⟨h1, h2.trans (by rw [ha, zero_add])⟩

/-- The carried columns after the diagonal block. -/
def diagCarry : Carry := (kernelRun0_A.sl.r_10 (F := Ideal) c i arg3 harg3 arg4 harg4 arg6 harg6 x0 x1 x3, kernelRun0_A.sl.r_12 (F := Ideal) c i arg3 harg3 arg4 harg4 arg6 harg6 x0 x1 x3, kernelRun0_A.sl.r_15 (F := Ideal) c i arg3 harg3 arg4 harg4 arg6 harg6 x0 x1 x3, kernelRun0_A.sl.r_18 (F := Ideal) c i arg3 harg3 arg4 harg4 arg6 harg6 x0 x1 x3, kernelRun0_A.sl.r_20 (F := Ideal) c i arg3 harg3 arg4 harg4 arg6 harg6 x0 x1 x3, kernelRun0_A.sl.r_23 (F := Ideal) c i arg3 harg3 arg4 harg4 arg6 harg6 x0 x1 x3, kernelRun0_A.sl.r_25 (F := Ideal) c i arg3 harg3 arg4 harg4 arg6 harg6 x0 x1 x3, kernelRun0_A.sl.r_28 (F := Ideal) c i arg3 harg3 arg4 harg4 arg6 harg6 x0 x1 x3)

theorem diag_at0 (r : Fin 256) (d : Fin 128) (P : ℕ → ℝ) (V : ℕ → EReal)
    (hu : ∀ (j : Fin 512) (c' : Fin 256), (kernelRun0_A.sl.v1 (F := Ideal) c arg6 harg6 x3) (ix2 j c') = if c'.val ≤ j.val % 256 then 1 else 0)
    (hP : ∀ s : Fin 4096, ∑ e : Fin 128, x0 (ix2 r ⟨(0 : Fin 8).val * 128 + e.val, by omega⟩) * x1 (ix2 s ⟨(0 : Fin 8).val * 128 + e.val, by omega⟩) = ((P s : ℝ) : EReal))
    (hV : ∀ s : Fin 4096, x2 (ix2 s ⟨(0 : Fin 8).val * 128 + d.val, by omega⟩) = V s) :
    Carry.get (diagCarry c i arg3 harg3 arg4 harg4 arg6 harg6 x0 x1 x3) (0 : Fin 8) (ix2 r 0) = ((between P ((i 2).val * 256) ((i 2).val * 256 + r.val) : ℝ) : EReal)
    ∧ arg8.view.read (Elt Ideal) (arg8.view.writes (Elt Ideal) arg8.view.junk (kernelRun0_A.sl.HS0_9 (F := Ideal) c i arg3 harg3 arg4 harg4 arg5 harg5 arg6 harg6 arg8 x0 x1 x2 x3)) (ix3 (0 : Fin 8) r d)
      = ∑ c : Fin 256, ((weight P ((i 2).val * 256 + r.val) ((i 2).val * 256 + c.val) : ℝ) : EReal) * V ((i 2).val * 256 + c.val) := by
  rw [diagCarry, get0, carry0_eq, stores7_eq, miss _ _ 7 0 (by decide), stores6_eq, miss _ _ 6 0 (by decide), stores5_eq, miss _ _ 5 0 (by decide), stores4_eq, miss _ _ 4 0 (by decide), stores3_eq, miss _ _ 3 0 (by decide), stores2_eq, miss _ _ 2 0 (by decide), stores1_eq, miss _ _ 1 0 (by decide), stores0_eq, hit _ _ 0 0 rfl]
  refine diag_case i arg3 harg3 arg4 harg4 arg5 harg5 x0 x1 x2 _ 0 r d P V hu hP hV _ _ rfl (off1_val i) _ _ _ ?_
  refine (ldAcc_at arg8.view _ _ 0 rfl _ r d).trans ?_
  exact fill_at arg8.view _ 0 r d

theorem diag_at1 (r : Fin 256) (d : Fin 128) (P : ℕ → ℝ) (V : ℕ → EReal)
    (hu : ∀ (j : Fin 512) (c' : Fin 256), (kernelRun0_A.sl.v1 (F := Ideal) c arg6 harg6 x3) (ix2 j c') = if c'.val ≤ j.val % 256 then 1 else 0)
    (hP : ∀ s : Fin 4096, ∑ e : Fin 128, x0 (ix2 r ⟨(1 : Fin 8).val * 128 + e.val, by omega⟩) * x1 (ix2 s ⟨(1 : Fin 8).val * 128 + e.val, by omega⟩) = ((P s : ℝ) : EReal))
    (hV : ∀ s : Fin 4096, x2 (ix2 s ⟨(1 : Fin 8).val * 128 + d.val, by omega⟩) = V s) :
    Carry.get (diagCarry c i arg3 harg3 arg4 harg4 arg6 harg6 x0 x1 x3) (1 : Fin 8) (ix2 r 0) = ((between P ((i 2).val * 256) ((i 2).val * 256 + r.val) : ℝ) : EReal)
    ∧ arg8.view.read (Elt Ideal) (arg8.view.writes (Elt Ideal) arg8.view.junk (kernelRun0_A.sl.HS0_9 (F := Ideal) c i arg3 harg3 arg4 harg4 arg5 harg5 arg6 harg6 arg8 x0 x1 x2 x3)) (ix3 (1 : Fin 8) r d)
      = ∑ c : Fin 256, ((weight P ((i 2).val * 256 + r.val) ((i 2).val * 256 + c.val) : ℝ) : EReal) * V ((i 2).val * 256 + c.val) := by
  rw [diagCarry, get1, carry1_eq, stores7_eq, miss _ _ 7 1 (by decide), stores6_eq, miss _ _ 6 1 (by decide), stores5_eq, miss _ _ 5 1 (by decide), stores4_eq, miss _ _ 4 1 (by decide), stores3_eq, miss _ _ 3 1 (by decide), stores2_eq, miss _ _ 2 1 (by decide), stores1_eq, hit _ _ 1 1 rfl]
  refine diag_case i arg3 harg3 arg4 harg4 arg5 harg5 x0 x1 x2 _ 1 r d P V hu hP hV _ _ rfl (off2_val i) _ _ _ ?_
  refine (ldAcc_at arg8.view _ _ 1 rfl _ r d).trans ?_
  rw [stores0_eq, miss _ _ 0 1 (by decide)]
  exact fill_at arg8.view _ 1 r d

theorem diag_at2 (r : Fin 256) (d : Fin 128) (P : ℕ → ℝ) (V : ℕ → EReal)
    (hu : ∀ (j : Fin 512) (c' : Fin 256), (kernelRun0_A.sl.v1 (F := Ideal) c arg6 harg6 x3) (ix2 j c') = if c'.val ≤ j.val % 256 then 1 else 0)
    (hP : ∀ s : Fin 4096, ∑ e : Fin 128, x0 (ix2 r ⟨(2 : Fin 8).val * 128 + e.val, by omega⟩) * x1 (ix2 s ⟨(2 : Fin 8).val * 128 + e.val, by omega⟩) = ((P s : ℝ) : EReal))
    (hV : ∀ s : Fin 4096, x2 (ix2 s ⟨(2 : Fin 8).val * 128 + d.val, by omega⟩) = V s) :
    Carry.get (diagCarry c i arg3 harg3 arg4 harg4 arg6 harg6 x0 x1 x3) (2 : Fin 8) (ix2 r 0) = ((between P ((i 2).val * 256) ((i 2).val * 256 + r.val) : ℝ) : EReal)
    ∧ arg8.view.read (Elt Ideal) (arg8.view.writes (Elt Ideal) arg8.view.junk (kernelRun0_A.sl.HS0_9 (F := Ideal) c i arg3 harg3 arg4 harg4 arg5 harg5 arg6 harg6 arg8 x0 x1 x2 x3)) (ix3 (2 : Fin 8) r d)
      = ∑ c : Fin 256, ((weight P ((i 2).val * 256 + r.val) ((i 2).val * 256 + c.val) : ℝ) : EReal) * V ((i 2).val * 256 + c.val) := by
  rw [diagCarry, get2, carry2_eq, stores7_eq, miss _ _ 7 2 (by decide), stores6_eq, miss _ _ 6 2 (by decide), stores5_eq, miss _ _ 5 2 (by decide), stores4_eq, miss _ _ 4 2 (by decide), stores3_eq, miss _ _ 3 2 (by decide), stores2_eq, hit _ _ 2 2 rfl]
  refine diag_case i arg3 harg3 arg4 harg4 arg5 harg5 x0 x1 x2 _ 2 r d P V hu hP hV _ _ rfl (off3_val i) _ _ _ ?_
  refine (ldAcc_at arg8.view _ _ 2 rfl _ r d).trans ?_
  rw [stores1_eq, miss _ _ 1 2 (by decide), stores0_eq, miss _ _ 0 2 (by decide)]
  exact fill_at arg8.view _ 2 r d

theorem diag_at3 (r : Fin 256) (d : Fin 128) (P : ℕ → ℝ) (V : ℕ → EReal)
    (hu : ∀ (j : Fin 512) (c' : Fin 256), (kernelRun0_A.sl.v1 (F := Ideal) c arg6 harg6 x3) (ix2 j c') = if c'.val ≤ j.val % 256 then 1 else 0)
    (hP : ∀ s : Fin 4096, ∑ e : Fin 128, x0 (ix2 r ⟨(3 : Fin 8).val * 128 + e.val, by omega⟩) * x1 (ix2 s ⟨(3 : Fin 8).val * 128 + e.val, by omega⟩) = ((P s : ℝ) : EReal))
    (hV : ∀ s : Fin 4096, x2 (ix2 s ⟨(3 : Fin 8).val * 128 + d.val, by omega⟩) = V s) :
    Carry.get (diagCarry c i arg3 harg3 arg4 harg4 arg6 harg6 x0 x1 x3) (3 : Fin 8) (ix2 r 0) = ((between P ((i 2).val * 256) ((i 2).val * 256 + r.val) : ℝ) : EReal)
    ∧ arg8.view.read (Elt Ideal) (arg8.view.writes (Elt Ideal) arg8.view.junk (kernelRun0_A.sl.HS0_9 (F := Ideal) c i arg3 harg3 arg4 harg4 arg5 harg5 arg6 harg6 arg8 x0 x1 x2 x3)) (ix3 (3 : Fin 8) r d)
      = ∑ c : Fin 256, ((weight P ((i 2).val * 256 + r.val) ((i 2).val * 256 + c.val) : ℝ) : EReal) * V ((i 2).val * 256 + c.val) := by
  rw [diagCarry, get3, carry3_eq, stores7_eq, miss _ _ 7 3 (by decide), stores6_eq, miss _ _ 6 3 (by decide), stores5_eq, miss _ _ 5 3 (by decide), stores4_eq, miss _ _ 4 3 (by decide), stores3_eq, hit _ _ 3 3 rfl]
  refine diag_case i arg3 harg3 arg4 harg4 arg5 harg5 x0 x1 x2 _ 3 r d P V hu hP hV _ _ rfl (off4_val i) _ _ _ ?_
  refine (ldAcc_at arg8.view _ _ 3 rfl _ r d).trans ?_
  rw [stores2_eq, miss _ _ 2 3 (by decide), stores1_eq, miss _ _ 1 3 (by decide), stores0_eq, miss _ _ 0 3 (by decide)]
  exact fill_at arg8.view _ 3 r d

theorem diag_at4 (r : Fin 256) (d : Fin 128) (P : ℕ → ℝ) (V : ℕ → EReal)
    (hu : ∀ (j : Fin 512) (c' : Fin 256), (kernelRun0_A.sl.v1 (F := Ideal) c arg6 harg6 x3) (ix2 j c') = if c'.val ≤ j.val % 256 then 1 else 0)
    (hP : ∀ s : Fin 4096, ∑ e : Fin 128, x0 (ix2 r ⟨(4 : Fin 8).val * 128 + e.val, by omega⟩) * x1 (ix2 s ⟨(4 : Fin 8).val * 128 + e.val, by omega⟩) = ((P s : ℝ) : EReal))
    (hV : ∀ s : Fin 4096, x2 (ix2 s ⟨(4 : Fin 8).val * 128 + d.val, by omega⟩) = V s) :
    Carry.get (diagCarry c i arg3 harg3 arg4 harg4 arg6 harg6 x0 x1 x3) (4 : Fin 8) (ix2 r 0) = ((between P ((i 2).val * 256) ((i 2).val * 256 + r.val) : ℝ) : EReal)
    ∧ arg8.view.read (Elt Ideal) (arg8.view.writes (Elt Ideal) arg8.view.junk (kernelRun0_A.sl.HS0_9 (F := Ideal) c i arg3 harg3 arg4 harg4 arg5 harg5 arg6 harg6 arg8 x0 x1 x2 x3)) (ix3 (4 : Fin 8) r d)
      = ∑ c : Fin 256, ((weight P ((i 2).val * 256 + r.val) ((i 2).val * 256 + c.val) : ℝ) : EReal) * V ((i 2).val * 256 + c.val) := by
  rw [diagCarry, get4, carry4_eq, stores7_eq, miss _ _ 7 4 (by decide), stores6_eq, miss _ _ 6 4 (by decide), stores5_eq, miss _ _ 5 4 (by decide), stores4_eq, hit _ _ 4 4 rfl]
  refine diag_case i arg3 harg3 arg4 harg4 arg5 harg5 x0 x1 x2 _ 4 r d P V hu hP hV _ _ rfl (off5_val i) _ _ _ ?_
  refine (ldAcc_at arg8.view _ _ 4 rfl _ r d).trans ?_
  rw [stores3_eq, miss _ _ 3 4 (by decide), stores2_eq, miss _ _ 2 4 (by decide), stores1_eq, miss _ _ 1 4 (by decide), stores0_eq, miss _ _ 0 4 (by decide)]
  exact fill_at arg8.view _ 4 r d

theorem diag_at5 (r : Fin 256) (d : Fin 128) (P : ℕ → ℝ) (V : ℕ → EReal)
    (hu : ∀ (j : Fin 512) (c' : Fin 256), (kernelRun0_A.sl.v1 (F := Ideal) c arg6 harg6 x3) (ix2 j c') = if c'.val ≤ j.val % 256 then 1 else 0)
    (hP : ∀ s : Fin 4096, ∑ e : Fin 128, x0 (ix2 r ⟨(5 : Fin 8).val * 128 + e.val, by omega⟩) * x1 (ix2 s ⟨(5 : Fin 8).val * 128 + e.val, by omega⟩) = ((P s : ℝ) : EReal))
    (hV : ∀ s : Fin 4096, x2 (ix2 s ⟨(5 : Fin 8).val * 128 + d.val, by omega⟩) = V s) :
    Carry.get (diagCarry c i arg3 harg3 arg4 harg4 arg6 harg6 x0 x1 x3) (5 : Fin 8) (ix2 r 0) = ((between P ((i 2).val * 256) ((i 2).val * 256 + r.val) : ℝ) : EReal)
    ∧ arg8.view.read (Elt Ideal) (arg8.view.writes (Elt Ideal) arg8.view.junk (kernelRun0_A.sl.HS0_9 (F := Ideal) c i arg3 harg3 arg4 harg4 arg5 harg5 arg6 harg6 arg8 x0 x1 x2 x3)) (ix3 (5 : Fin 8) r d)
      = ∑ c : Fin 256, ((weight P ((i 2).val * 256 + r.val) ((i 2).val * 256 + c.val) : ℝ) : EReal) * V ((i 2).val * 256 + c.val) := by
  rw [diagCarry, get5, carry5_eq, stores7_eq, miss _ _ 7 5 (by decide), stores6_eq, miss _ _ 6 5 (by decide), stores5_eq, hit _ _ 5 5 rfl]
  refine diag_case i arg3 harg3 arg4 harg4 arg5 harg5 x0 x1 x2 _ 5 r d P V hu hP hV _ _ rfl (off6_val i) _ _ _ ?_
  refine (ldAcc_at arg8.view _ _ 5 rfl _ r d).trans ?_
  rw [stores4_eq, miss _ _ 4 5 (by decide), stores3_eq, miss _ _ 3 5 (by decide), stores2_eq, miss _ _ 2 5 (by decide), stores1_eq, miss _ _ 1 5 (by decide), stores0_eq, miss _ _ 0 5 (by decide)]
  exact fill_at arg8.view _ 5 r d

theorem diag_at6 (r : Fin 256) (d : Fin 128) (P : ℕ → ℝ) (V : ℕ → EReal)
    (hu : ∀ (j : Fin 512) (c' : Fin 256), (kernelRun0_A.sl.v1 (F := Ideal) c arg6 harg6 x3) (ix2 j c') = if c'.val ≤ j.val % 256 then 1 else 0)
    (hP : ∀ s : Fin 4096, ∑ e : Fin 128, x0 (ix2 r ⟨(6 : Fin 8).val * 128 + e.val, by omega⟩) * x1 (ix2 s ⟨(6 : Fin 8).val * 128 + e.val, by omega⟩) = ((P s : ℝ) : EReal))
    (hV : ∀ s : Fin 4096, x2 (ix2 s ⟨(6 : Fin 8).val * 128 + d.val, by omega⟩) = V s) :
    Carry.get (diagCarry c i arg3 harg3 arg4 harg4 arg6 harg6 x0 x1 x3) (6 : Fin 8) (ix2 r 0) = ((between P ((i 2).val * 256) ((i 2).val * 256 + r.val) : ℝ) : EReal)
    ∧ arg8.view.read (Elt Ideal) (arg8.view.writes (Elt Ideal) arg8.view.junk (kernelRun0_A.sl.HS0_9 (F := Ideal) c i arg3 harg3 arg4 harg4 arg5 harg5 arg6 harg6 arg8 x0 x1 x2 x3)) (ix3 (6 : Fin 8) r d)
      = ∑ c : Fin 256, ((weight P ((i 2).val * 256 + r.val) ((i 2).val * 256 + c.val) : ℝ) : EReal) * V ((i 2).val * 256 + c.val) := by
  rw [diagCarry, get6, carry6_eq, stores7_eq, miss _ _ 7 6 (by decide), stores6_eq, hit _ _ 6 6 rfl]
  refine diag_case i arg3 harg3 arg4 harg4 arg5 harg5 x0 x1 x2 _ 6 r d P V hu hP hV _ _ rfl (off7_val i) _ _ _ ?_
  refine (ldAcc_at arg8.view _ _ 6 rfl _ r d).trans ?_
  rw [stores5_eq, miss _ _ 5 6 (by decide), stores4_eq, miss _ _ 4 6 (by decide), stores3_eq, miss _ _ 3 6 (by decide), stores2_eq, miss _ _ 2 6 (by decide), stores1_eq, miss _ _ 1 6 (by decide), stores0_eq, miss _ _ 0 6 (by decide)]
  exact fill_at arg8.view _ 6 r d

theorem diag_at7 (r : Fin 256) (d : Fin 128) (P : ℕ → ℝ) (V : ℕ → EReal)
    (hu : ∀ (j : Fin 512) (c' : Fin 256), (kernelRun0_A.sl.v1 (F := Ideal) c arg6 harg6 x3) (ix2 j c') = if c'.val ≤ j.val % 256 then 1 else 0)
    (hP : ∀ s : Fin 4096, ∑ e : Fin 128, x0 (ix2 r ⟨(7 : Fin 8).val * 128 + e.val, by omega⟩) * x1 (ix2 s ⟨(7 : Fin 8).val * 128 + e.val, by omega⟩) = ((P s : ℝ) : EReal))
    (hV : ∀ s : Fin 4096, x2 (ix2 s ⟨(7 : Fin 8).val * 128 + d.val, by omega⟩) = V s) :
    Carry.get (diagCarry c i arg3 harg3 arg4 harg4 arg6 harg6 x0 x1 x3) (7 : Fin 8) (ix2 r 0) = ((between P ((i 2).val * 256) ((i 2).val * 256 + r.val) : ℝ) : EReal)
    ∧ arg8.view.read (Elt Ideal) (arg8.view.writes (Elt Ideal) arg8.view.junk (kernelRun0_A.sl.HS0_9 (F := Ideal) c i arg3 harg3 arg4 harg4 arg5 harg5 arg6 harg6 arg8 x0 x1 x2 x3)) (ix3 (7 : Fin 8) r d)
      = ∑ c : Fin 256, ((weight P ((i 2).val * 256 + r.val) ((i 2).val * 256 + c.val) : ℝ) : EReal) * V ((i 2).val * 256 + c.val) := by
  rw [diagCarry, get7, carry7_eq, stores7_eq, hit _ _ 7 7 rfl]
  refine diag_case i arg3 harg3 arg4 harg4 arg5 harg5 x0 x1 x2 _ 7 r d P V hu hP hV _ _ rfl (off8_val i) _ _ _ ?_
  refine (ldAcc_at arg8.view _ _ 7 rfl _ r d).trans ?_
  rw [stores6_eq, miss _ _ 6 7 (by decide), stores5_eq, miss _ _ 5 7 (by decide), stores4_eq, miss _ _ 4 7 (by decide), stores3_eq, miss _ _ 3 7 (by decide), stores2_eq, miss _ _ 2 7 (by decide), stores1_eq, miss _ _ 1 7 (by decide), stores0_eq, miss _ _ 0 7 (by decide)]
  exact fill_at arg8.view _ 7 r d

/-- After the diagonal block, a head's carried column sums the softplus of the block's keys before the query, and its accumulator
    holds the block's weighted values. -/
theorem diag_at (h : Fin 8) (r : Fin 256) (d : Fin 128) (P : ℕ → ℝ) (V : ℕ → EReal)
    (hu : ∀ (j : Fin 512) (c' : Fin 256), (kernelRun0_A.sl.v1 (F := Ideal) c arg6 harg6 x3) (ix2 j c') = if c'.val ≤ j.val % 256 then 1 else 0)
    (hP : ∀ s : Fin 4096, ∑ e : Fin 128, x0 (ix2 r ⟨h.val * 128 + e.val, by omega⟩) * x1 (ix2 s ⟨h.val * 128 + e.val, by omega⟩) = ((P s : ℝ) : EReal))
    (hV : ∀ s : Fin 4096, x2 (ix2 s ⟨h.val * 128 + d.val, by omega⟩) = V s) :
    Carry.get (diagCarry c i arg3 harg3 arg4 harg4 arg6 harg6 x0 x1 x3) h (ix2 r 0) = ((between P ((i 2).val * 256) ((i 2).val * 256 + r.val) : ℝ) : EReal)
    ∧ arg8.view.read (Elt Ideal) (arg8.view.writes (Elt Ideal) arg8.view.junk (kernelRun0_A.sl.HS0_9 (F := Ideal) c i arg3 harg3 arg4 harg4 arg5 harg5 arg6 harg6 arg8 x0 x1 x2 x3)) (ix3 h r d)
      = ∑ c : Fin 256, ((weight P ((i 2).val * 256 + r.val) ((i 2).val * 256 + c.val) : ℝ) : EReal) * V ((i 2).val * 256 + c.val) := by
  revert h
  exact fin8
    (diag_at0 c i arg3 harg3 arg4 harg4 arg5 harg5 arg6 harg6 arg8 x0 x1 x2 x3 r d P V hu)
    (diag_at1 c i arg3 harg3 arg4 harg4 arg5 harg5 arg6 harg6 arg8 x0 x1 x2 x3 r d P V hu)
    (diag_at2 c i arg3 harg3 arg4 harg4 arg5 harg5 arg6 harg6 arg8 x0 x1 x2 x3 r d P V hu)
    (diag_at3 c i arg3 harg3 arg4 harg4 arg5 harg5 arg6 harg6 arg8 x0 x1 x2 x3 r d P V hu)
    (diag_at4 c i arg3 harg3 arg4 harg4 arg5 harg5 arg6 harg6 arg8 x0 x1 x2 x3 r d P V hu)
    (diag_at5 c i arg3 harg3 arg4 harg4 arg5 harg5 arg6 harg6 arg8 x0 x1 x2 x3 r d P V hu)
    (diag_at6 c i arg3 harg3 arg4 harg4 arg5 harg5 arg6 harg6 arg8 x0 x1 x2 x3 r d P V hu)
    (diag_at7 c i arg3 harg3 arg4 harg4 arg5 harg5 arg6 harg6 arg8 x0 x1 x2 x3 r d P V hu)

end Cert.KernelIdeal.Trip

end
-- ==== Proof.Out.lean ====
/- What one run of the kernel's body writes: entry by entry, the weighted sum of the values over every key. -/
module

public import proofs.«01_k».proof.Proof.Gen.KernelIdeal.Value
public import Idealize.ShloMosaic.Lib.Pipeline.ValueKit
public import Idealize.ShloMosaic.Lib.WritesUnit
public import Idealize.ShloMosaic.Lib.WordCmp
public import proofs.«01_k».proof.Proof.Diag

@[expose] public section

set_option maxRecDepth 16384

noncomputable section

namespace Cert.KernelIdeal.Trip

open Cert.KernelIdeal Cert.KernelIdeal.Gen Idealize.ShloMosaic Idealize.ShloMosaic.TcCoe Idealize.SL.Sem
open Cert.KernelIdeal.Facts
open Cert.Proof.Stick

variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S512x256 .bf16) (harg6 : arg6.IsWhole) (arg7 : Memref sig .tc .vmem S256x1024 .bf16) (harg7 : arg7.IsWhole) (arg8 : Memref sig .tc .vmem S8x256x128 .f32) (harg8 : arg8.IsWhole) (x0 : Vec Ideal S256x1024 .bf16) (x1 : Vec Ideal S4096x1024 .bf16) (x2 : Vec Ideal S4096x1024 .bf16) (x3 : Vec Ideal S512x256 .bf16)

/-- The state after the loop over the blocks below the diagonal, started from what the diagonal block leaves. -/
def loopState : Carry × List (View.Piece (Elt Ideal) S8x256x128 .f32) :=
  st_k0_t1 (F := Ideal) Variants.none c none i arg3 harg3 arg4 harg4 arg5 harg5 arg6 harg6 arg7 harg7 arg8 harg8 (BitVec.ofNat 32 (i 2).val)
      (kernelRun0_A.sl.v1 (F := Ideal) c arg6 harg6 x3)
      (kernelRun0_A.sl.r_10 (F := Ideal) c i arg3 harg3 arg4 harg4 arg6 harg6 x0 x1 x3) (kernelRun0_A.sl.r_12 (F := Ideal) c i arg3 harg3 arg4 harg4 arg6 harg6 x0 x1 x3) (kernelRun0_A.sl.r_15 (F := Ideal) c i arg3 harg3 arg4 harg4 arg6 harg6 x0 x1 x3) (kernelRun0_A.sl.r_18 (F := Ideal) c i arg3 harg3 arg4 harg4 arg6 harg6 x0 x1 x3)
      (kernelRun0_A.sl.r_20 (F := Ideal) c i arg3 harg3 arg4 harg4 arg6 harg6 x0 x1 x3) (kernelRun0_A.sl.r_23 (F := Ideal) c i arg3 harg3 arg4 harg4 arg6 harg6 x0 x1 x3) (kernelRun0_A.sl.r_25 (F := Ideal) c i arg3 harg3 arg4 harg4 arg6 harg6 x0 x1 x3) (kernelRun0_A.sl.r_28 (F := Ideal) c i arg3 harg3 arg4 harg4 arg6 harg6 x0 x1 x3)
      (kernelRun0_A.sl.r_31 (F := Ideal) c i arg5 harg5 x2) (kernelRun0_A.sl.v411 (F := Ideal) c i arg3 harg3 arg4 harg4 arg6 harg6 x0 x1 x3) kernelRun0_A.sl.v304 0#32
      (harg3.unread x0) (harg4.unread x1) (harg5.unread x2) (arg8.view.writes (Elt Ideal) arg8.view.junk (kernelRun0_A.sl.HS0_9 (F := Ideal) c i arg3 harg3 arg4 harg4 arg5 harg5 arg6 harg6 arg8 x0 x1 x2 x3)) (diagCarry c i arg3 harg3 arg4 harg4 arg6 harg6 x0 x1 x3) (k0_t1_loop i).trips

/-- The state after the remainder loop. -/
def restState : Carry × List (View.Piece (Elt Ideal) S8x256x128 .f32) :=
  st_k0_t2 (F := Ideal) Variants.none c none i arg3 harg3 arg4 harg4 arg5 harg5 arg6 harg6 arg7 harg7 arg8 harg8 (BitVec.ofNat 32 (i 2).val)
      (kernelRun0_A.sl.v1 (F := Ideal) c arg6 harg6 x3)
      (kernelRun0_A.sl.r_10 (F := Ideal) c i arg3 harg3 arg4 harg4 arg6 harg6 x0 x1 x3) (kernelRun0_A.sl.r_12 (F := Ideal) c i arg3 harg3 arg4 harg4 arg6 harg6 x0 x1 x3) (kernelRun0_A.sl.r_15 (F := Ideal) c i arg3 harg3 arg4 harg4 arg6 harg6 x0 x1 x3) (kernelRun0_A.sl.r_18 (F := Ideal) c i arg3 harg3 arg4 harg4 arg6 harg6 x0 x1 x3)
      (kernelRun0_A.sl.r_20 (F := Ideal) c i arg3 harg3 arg4 harg4 arg6 harg6 x0 x1 x3) (kernelRun0_A.sl.r_23 (F := Ideal) c i arg3 harg3 arg4 harg4 arg6 harg6 x0 x1 x3) (kernelRun0_A.sl.r_25 (F := Ideal) c i arg3 harg3 arg4 harg4 arg6 harg6 x0 x1 x3) (kernelRun0_A.sl.r_28 (F := Ideal) c i arg3 harg3 arg4 harg4 arg6 harg6 x0 x1 x3)
      (kernelRun0_A.sl.r_31 (F := Ideal) c i arg5 harg5 x2) (kernelRun0_A.sl.v411 (F := Ideal) c i arg3 harg3 arg4 harg4 arg6 harg6 x0 x1 x3) kernelRun0_A.sl.v304 0#32 (kernelRun0_A.sl.v430 i)
      (harg3.unread x0) (harg4.unread x1) (harg5.unread x2) (arg8.view.writes (Elt Ideal) arg8.view.junk ((loopState c i arg3 harg3 arg4 harg4 arg5 harg5 arg6 harg6 arg7 harg7 arg8 harg8 x0 x1 x2 x3).2 ++ (kernelRun0_A.sl.HS0_9 (F := Ideal) c i arg3 harg3 arg4 harg4 arg5 harg5 arg6 harg6 arg8 x0 x1 x2 x3))) (loopState c i arg3 harg3 arg4 harg4 arg5 harg5 arg6 harg6 arg7 harg7 arg8 harg8 x0 x1 x2 x3).1 (k0_t2_loop i).trips

/-- Every store to the accumulators, the last first. -/
def stores : List (View.Piece (Elt Ideal) S8x256x128 .f32) :=
  (restState c i arg3 harg3 arg4 harg4 arg5 harg5 arg6 harg6 arg7 harg7 arg8 harg8 x0 x1 x2 x3).2 ++ ((loopState c i arg3 harg3 arg4 harg4 arg5 harg5 arg6 harg6 arg7 harg7 arg8 harg8 x0 x1 x2 x3).2 ++ (kernelRun0_A.sl.HS0_9 (F := Ideal) c i arg3 harg3 arg4 harg4 arg5 harg5 arg6 harg6 arg8 x0 x1 x2 x3))

/-- The body's result: the eight accumulators side by side. -/
theorem out_eq : out0_A_4 (F := Ideal) c i arg3 harg3 arg4 harg4 arg5 harg5 arg6 harg6 arg7 harg7 arg8 harg8 x0 x1 x2 x3
    = VO0_4.read (Elt Ideal) (VO0_4.writes (Elt Ideal) VO0_4.junk [
      ⟨Rect.unit (s := S256x1024) ![0, 896] S256x128.size inb_S256x1024_S256x128_0_896, k0_pay163 (View.readCov (Val := Elt Ideal) arg8.view (stores c i arg3 harg3 arg4 harg4 arg5 harg5 arg6 harg6 arg7 harg7 arg8 harg8 x0 x1 x2 x3) (Rect.unit (s := S8x256x128) ![7, 0, 0] S1x256x128.size inb_S8x256x128_S1x256x128_7_0_0).toLoadRect)⟩,
      ⟨Rect.unit (s := S256x1024) ![0, 768] S256x128.size inb_S256x1024_S256x128_0_768, k0_pay163 (View.readCov (Val := Elt Ideal) arg8.view (stores c i arg3 harg3 arg4 harg4 arg5 harg5 arg6 harg6 arg7 harg7 arg8 harg8 x0 x1 x2 x3) (Rect.unit (s := S8x256x128) ![6, 0, 0] S1x256x128.size inb_S8x256x128_S1x256x128_6_0_0).toLoadRect)⟩,
      ⟨Rect.unit (s := S256x1024) ![0, 640] S256x128.size inb_S256x1024_S256x128_0_640, k0_pay163 (View.readCov (Val := Elt Ideal) arg8.view (stores c i arg3 harg3 arg4 harg4 arg5 harg5 arg6 harg6 arg7 harg7 arg8 harg8 x0 x1 x2 x3) (Rect.unit (s := S8x256x128) ![5, 0, 0] S1x256x128.size inb_S8x256x128_S1x256x128_5_0_0).toLoadRect)⟩,
      ⟨Rect.unit (s := S256x1024) ![0, 512] S256x128.size inb_S256x1024_S256x128_0_512, k0_pay163 (View.readCov (Val := Elt Ideal) arg8.view (stores c i arg3 harg3 arg4 harg4 arg5 harg5 arg6 harg6 arg7 harg7 arg8 harg8 x0 x1 x2 x3) (Rect.unit (s := S8x256x128) ![4, 0, 0] S1x256x128.size inb_S8x256x128_S1x256x128_4_0_0).toLoadRect)⟩,
      ⟨Rect.unit (s := S256x1024) ![0, 384] S256x128.size inb_S256x1024_S256x128_0_384, k0_pay163 (View.readCov (Val := Elt Ideal) arg8.view (stores c i arg3 harg3 arg4 harg4 arg5 harg5 arg6 harg6 arg7 harg7 arg8 harg8 x0 x1 x2 x3) (Rect.unit (s := S8x256x128) ![3, 0, 0] S1x256x128.size inb_S8x256x128_S1x256x128_3_0_0).toLoadRect)⟩,
      ⟨Rect.unit (s := S256x1024) ![0, 256] S256x128.size inb_S256x1024_S256x128_0_256, k0_pay163 (View.readCov (Val := Elt Ideal) arg8.view (stores c i arg3 harg3 arg4 harg4 arg5 harg5 arg6 harg6 arg7 harg7 arg8 harg8 x0 x1 x2 x3) (Rect.unit (s := S8x256x128) ![2, 0, 0] S1x256x128.size inb_S8x256x128_S1x256x128_2_0_0).toLoadRect)⟩,
      ⟨Rect.unit (s := S256x1024) ![0, 128] S256x128.size inb_S256x1024_S256x128_0_128, k0_pay163 (View.readCov (Val := Elt Ideal) arg8.view (stores c i arg3 harg3 arg4 harg4 arg5 harg5 arg6 harg6 arg7 harg7 arg8 harg8 x0 x1 x2 x3) (Rect.unit (s := S8x256x128) ![1, 0, 0] S1x256x128.size inb_S8x256x128_S1x256x128_1_0_0).toLoadRect)⟩,
      ⟨Rect.unit (s := S256x1024) ![0, 0] S256x128.size inb_S256x1024_S256x128_0_0, k0_pay163 (View.readCov (Val := Elt Ideal) arg8.view (stores c i arg3 harg3 arg4 harg4 arg5 harg5 arg6 harg6 arg7 harg7 arg8 harg8 x0 x1 x2 x3) (Rect.unit (s := S8x256x128) ![0, 0, 0] S1x256x128.size inb_S8x256x128_S1x256x128_0_0_0).toLoadRect)⟩])
    := by
  unfold out0_A_4 kernelRun0_A stores restState loopState
  rfl

theorem rest_nil : (restState c i arg3 harg3 arg4 harg4 arg5 harg5 arg6 harg6 arg7 harg7 arg8 harg8 x0 x1 x2 x3).2 = [] := by
  have h : (k0_t2_loop i).trips = 0 := trips2_eq (i 2)
  unfold restState
  rw [h]
  rfl

/-- A sum over every key: the diagonal block's, those before it, and zeros. -/
theorem all_keys (w : ℕ → EReal) (q : ℕ) (hq : q < 16) (h0 : ∀ s, (q + 1) * 256 ≤ s → w s = 0) :
    ∑ c : Fin 256, w (q * 256 + c.val) + ∑ j ∈ Finset.Ico 0 (q * 256), w j = ∑ s : Fin 4096, w s.val := by
  rw [Fin.sum_univ_eq_sum_range (fun c => w (q * 256 + c)) 256, Fin.sum_univ_eq_sum_range w 4096, ← Finset.range_eq_Ico, add_comm,
    ← Finset.sum_range_add, show q * 256 + 256 = (q + 1) * 256 by omega]
  refine Finset.sum_subset (fun s hs => ?_) fun s _ hs => h0 s ?_
  · rw [Finset.mem_range] at hs ⊢; omega
  · rw [Finset.mem_range] at hs; omega

theorem acc_inb (h : Fin 8) : ∀ x : Fin 3, (![h.val, 0, 0] : Fin 3 → ℕ) x + S1x256x128.size x ≤ S8x256x128.size x := by
  revert h; decide

/-- The accumulators at the end: every key's value by its weight. -/
theorem stores_at (h : Fin 8) (r : Fin 256) (d : Fin 128) (P : ℕ → ℝ) (V : ℕ → EReal)
    (hu : ∀ (j : Fin 512) (c' : Fin 256), (kernelRun0_A.sl.v1 (F := Ideal) c arg6 harg6 x3) (ix2 j c') = if c'.val ≤ j.val % 256 then 1 else 0)
    (hP : ∀ s : Fin 4096, ∑ e : Fin 128, x0 (ix2 r ⟨h.val * 128 + e.val, by omega⟩) * x1 (ix2 s ⟨h.val * 128 + e.val, by omega⟩) = ((P s : ℝ) : EReal))
    (hV : ∀ s : Fin 4096, x2 (ix2 s ⟨h.val * 128 + d.val, by omega⟩) = V s) :
    arg8.view.read (Elt Ideal) (arg8.view.writes (Elt Ideal) arg8.view.junk (stores c i arg3 harg3 arg4 harg4 arg5 harg5 arg6 harg6 arg7 harg7 arg8 harg8 x0 x1 x2 x3)) (ix3 h r d)
      = ∑ s : Fin 4096, ((weight P ((i 2).val * 256 + r.val) s : ℝ) : EReal) * V s := by
  have hi : (i 2).val < 16 := (i 2).isLt
  obtain ⟨hc, ha⟩ := diag_at c i arg3 harg3 arg4 harg4 arg5 harg5 arg6 harg6 arg8 x0 x1 x2 x3 h r d P V hu hP hV
  have hn : (k0_t1_loop i).trips = (i 2).val := trips_eq (i 2)
  obtain ⟨-, hs⟩ := state_at Variants.none c none i arg3 harg3 arg4 harg4 arg5 harg5 arg6 harg6 arg7 harg7 arg8 harg8 (BitVec.ofNat 32 (i 2).val)
      (kernelRun0_A.sl.v1 (F := Ideal) c arg6 harg6 x3)
      (kernelRun0_A.sl.r_10 (F := Ideal) c i arg3 harg3 arg4 harg4 arg6 harg6 x0 x1 x3) (kernelRun0_A.sl.r_12 (F := Ideal) c i arg3 harg3 arg4 harg4 arg6 harg6 x0 x1 x3) (kernelRun0_A.sl.r_15 (F := Ideal) c i arg3 harg3 arg4 harg4 arg6 harg6 x0 x1 x3) (kernelRun0_A.sl.r_18 (F := Ideal) c i arg3 harg3 arg4 harg4 arg6 harg6 x0 x1 x3)
      (kernelRun0_A.sl.r_20 (F := Ideal) c i arg3 harg3 arg4 harg4 arg6 harg6 x0 x1 x3) (kernelRun0_A.sl.r_23 (F := Ideal) c i arg3 harg3 arg4 harg4 arg6 harg6 x0 x1 x3) (kernelRun0_A.sl.r_25 (F := Ideal) c i arg3 harg3 arg4 harg4 arg6 harg6 x0 x1 x3) (kernelRun0_A.sl.r_28 (F := Ideal) c i arg3 harg3 arg4 harg4 arg6 harg6 x0 x1 x3)
      (kernelRun0_A.sl.r_31 (F := Ideal) c i arg5 harg5 x2) (kernelRun0_A.sl.v411 (F := Ideal) c i arg3 harg3 arg4 harg4 arg6 harg6 x0 x1 x3) kernelRun0_A.sl.v304 0#32
      (harg3.unread x0) (harg4.unread x1) (harg5.unread x2) (diagCarry c i arg3 harg3 arg4 harg4 arg6 harg6 x0 x1 x3) (arg8.view.writes (Elt Ideal) arg8.view.junk (kernelRun0_A.sl.HS0_9 (F := Ideal) c i arg3 harg3 arg4 harg4 arg5 harg5 arg6 harg6 arg8 x0 x1 x2 x3)) h r d P V _ rfl hu
      (fun s => by rw [Memref.IsWhole.read_unread, Memref.IsWhole.read_unread]; exact hP s)
      (fun s => by rw [Memref.IsWhole.read_unread]; exact hV s) hc (k0_t1_loop i).trips hn.le
  unfold stores
  rw [rest_nil, List.nil_append, View.writes_append]
  unfold loopState
  rw [hs, ha, hn, Nat.sub_self, Nat.zero_mul]
  refine all_keys (fun s => ((weight P ((i 2).val * 256 + r.val) s : ℝ) : EReal) * V s) (i 2).val (by omega) fun s hs' => ?_
  rw [weight, if_neg (by omega), EReal.coe_zero, zero_mul]

/-- A store of one head's columns of the result, read back at them. -/
theorem colHit (v : View sig .tc .vmem S256x1024 .bf16) (X : v.ty.Contents (Elt Ideal)) (b : ℕ) (h : Fin 8) (hb : b = h.val * 128)
    (inb : ∀ x : Fin 2, (![0, b] : Fin 2 → ℕ) x + S256x128.size x ≤ S256x1024.size x) (w : Vec Ideal S256x128 .bf16)
    (L : List (View.Piece (Elt Ideal) S256x1024 .bf16)) (r : Fin 256) (d : Fin 128) :
    v.read (Elt Ideal) (v.writes (Elt Ideal) X (⟨Rect.unit (s := S256x1024) ![0, b] S256x128.size inb, w⟩ :: L)) (ix2 r ⟨h.val * 128 + d.val, by omega⟩)
      = w (ix2 r d) := by
  subst hb
  refine View.read_writes_cons_unit_of_mem v X inb w L _ (ix2 r d) rfl fun x => ?_
  match x with
  | ⟨0, _⟩ => exact (Nat.zero_add _).symm
  | ⟨1, _⟩ => rfl

/-- A store of another head's columns leaves them. -/
theorem colMiss (v : View sig .tc .vmem S256x1024 .bf16) (X : v.ty.Contents (Elt Ideal)) (b : ℕ) (h : Fin 8) (hb : (h.val + 1) * 128 ≤ b)
    (inb : ∀ x : Fin 2, (![0, b] : Fin 2 → ℕ) x + S256x128.size x ≤ S256x1024.size x) (w : Vec Ideal S256x128 .bf16)
    (L : List (View.Piece (Elt Ideal) S256x1024 .bf16)) (r : Fin 256) (d : Fin 128) :
    v.read (Elt Ideal) (v.writes (Elt Ideal) X (⟨Rect.unit (s := S256x1024) ![0, b] S256x128.size inb, w⟩ :: L)) (ix2 r ⟨h.val * 128 + d.val, by omega⟩)
      = v.read (Elt Ideal) (v.writes (Elt Ideal) X L) (ix2 r ⟨h.val * 128 + d.val, by omega⟩) := by
  refine View.read_writes_cons_unit_of_not_mem v X inb w L _ rfl (1 : Fin 2) (Or.inl ?_)
  show h.val * 128 + d.val < b
  omega

/-- The result's columns of a head are that head's accumulator. -/
theorem cols_at (v : View sig .tc .vmem S256x1024 .bf16) (X : v.ty.Contents (Elt Ideal)) (w : Fin 8 → Vec Ideal S256x128 .bf16) (h : Fin 8) (r : Fin 256) (d : Fin 128) :
    v.read (Elt Ideal) (v.writes (Elt Ideal) X [
      ⟨Rect.unit (s := S256x1024) ![0, 896] S256x128.size inb_S256x1024_S256x128_0_896, w 7⟩,
      ⟨Rect.unit (s := S256x1024) ![0, 768] S256x128.size inb_S256x1024_S256x128_0_768, w 6⟩,
      ⟨Rect.unit (s := S256x1024) ![0, 640] S256x128.size inb_S256x1024_S256x128_0_640, w 5⟩,
      ⟨Rect.unit (s := S256x1024) ![0, 512] S256x128.size inb_S256x1024_S256x128_0_512, w 4⟩,
      ⟨Rect.unit (s := S256x1024) ![0, 384] S256x128.size inb_S256x1024_S256x128_0_384, w 3⟩,
      ⟨Rect.unit (s := S256x1024) ![0, 256] S256x128.size inb_S256x1024_S256x128_0_256, w 2⟩,
      ⟨Rect.unit (s := S256x1024) ![0, 128] S256x128.size inb_S256x1024_S256x128_0_128, w 1⟩,
      ⟨Rect.unit (s := S256x1024) ![0, 0] S256x128.size inb_S256x1024_S256x128_0_0, w 0⟩]) (ix2 r ⟨h.val * 128 + d.val, by omega⟩) = w h (ix2 r d) := by
  revert h
  refine fin8 ?_ ?_ ?_ ?_ ?_ ?_ ?_ ?_
  · rw [colMiss _ _ 896 0 (by decide), colMiss _ _ 768 0 (by decide), colMiss _ _ 640 0 (by decide), colMiss _ _ 512 0 (by decide), colMiss _ _ 384 0 (by decide), colMiss _ _ 256 0 (by decide), colMiss _ _ 128 0 (by decide)]; exact colHit _ _ 0 0 rfl _ _ _ r d
  · rw [colMiss _ _ 896 1 (by decide), colMiss _ _ 768 1 (by decide), colMiss _ _ 640 1 (by decide), colMiss _ _ 512 1 (by decide), colMiss _ _ 384 1 (by decide), colMiss _ _ 256 1 (by decide)]; exact colHit _ _ 128 1 rfl _ _ _ r d
  · rw [colMiss _ _ 896 2 (by decide), colMiss _ _ 768 2 (by decide), colMiss _ _ 640 2 (by decide), colMiss _ _ 512 2 (by decide), colMiss _ _ 384 2 (by decide)]; exact colHit _ _ 256 2 rfl _ _ _ r d
  · rw [colMiss _ _ 896 3 (by decide), colMiss _ _ 768 3 (by decide), colMiss _ _ 640 3 (by decide), colMiss _ _ 512 3 (by decide)]; exact colHit _ _ 384 3 rfl _ _ _ r d
  · rw [colMiss _ _ 896 4 (by decide), colMiss _ _ 768 4 (by decide), colMiss _ _ 640 4 (by decide)]; exact colHit _ _ 512 4 rfl _ _ _ r d
  · rw [colMiss _ _ 896 5 (by decide), colMiss _ _ 768 5 (by decide)]; exact colHit _ _ 640 5 rfl _ _ _ r d
  · rw [colMiss _ _ 896 6 (by decide)]; exact colHit _ _ 768 6 rfl _ _ _ r d
  · exact colHit _ _ 896 7 rfl _ _ _ r d

/-- Casting an accumulator for the result changes no entry. -/
theorem pay163_at (a : Vec Ideal S1x256x128 .f32) (r : Fin 256) (d : Fin 128) : k0_pay163 (F := Ideal) a (ix2 r d) = a (ix3 0 r d) := by
  pointwise [k0_pay163]

/-- The body loads the whole of the constant. -/
theorem const_at (j : Fin 512) (b : Fin 256) : (kernelRun0_A.sl.v1 (F := Ideal) c arg6 harg6 x3) (ix2 j b) = x3 (ix2 j b) := by
  show k0_pay97 (F := Ideal) (arg6.view.readAt (Elt Ideal) (Rect.unit (s := S512x256) ![0, 0] S512x256.size inb_S512x256_S512x256_0_0).toLoadRect (harg6.unread x3)) (ix2 j b) = _
  pointwise [k0_pay97]
  refine (View.ld_unit_apply_of (arg6.view.read (Elt Ideal) (harg6.unread x3)) _ _ inb_S512x256_S512x256_0_0 (ix2 j b) (ix2 j b) fun x => ?_).trans ?_
  · match x with
    | ⟨0, _⟩ => exact (Nat.zero_add _).symm
    | ⟨1, _⟩ => exact (Nat.zero_add _).symm
  · rw [Memref.IsWhole.read_unread]

/-- One entry of what a run of the body writes. -/
theorem out_at (h : Fin 8) (r : Fin 256) (d : Fin 128) (P : ℕ → ℝ) (V : ℕ → EReal)
    (hu : ∀ (j : Fin 512) (c' : Fin 256), x3 (ix2 j c') = if c'.val ≤ j.val % 256 then 1 else 0)
    (hP : ∀ s : Fin 4096, ∑ e : Fin 128, x0 (ix2 r ⟨h.val * 128 + e.val, by omega⟩) * x1 (ix2 s ⟨h.val * 128 + e.val, by omega⟩) = ((P s : ℝ) : EReal))
    (hV : ∀ s : Fin 4096, x2 (ix2 s ⟨h.val * 128 + d.val, by omega⟩) = V s) :
    out0_A_4 (F := Ideal) c i arg3 harg3 arg4 harg4 arg5 harg5 arg6 harg6 arg7 harg7 arg8 harg8 x0 x1 x2 x3 (ix2 r ⟨h.val * 128 + d.val, by omega⟩)
      = ∑ s : Fin 4096, ((weight P ((i 2).val * 256 + r.val) s : ℝ) : EReal) * V s := by
  rw [out_eq]
  refine (cols_at VO0_4 _ (fun h => k0_pay163 (View.readCov (Val := Elt Ideal) arg8.view (stores c i arg3 harg3 arg4 harg4 arg5 harg5 arg6 harg6 arg7 harg7 arg8 harg8 x0 x1 x2 x3)
    (Rect.unit (s := S8x256x128) ![h.val, 0, 0] S1x256x128.size (acc_inb h)).toLoadRect)) h r d).trans ?_
  rw [pay163_at]
  refine (ldAcc_at arg8.view _ _ h rfl _ r d).trans ?_
  exact stores_at c i arg3 harg3 arg4 harg4 arg5 harg5 arg6 harg6 arg7 harg7 arg8 harg8 x0 x1 x2 x3 h r d P V (fun j b => (const_at c arg6 harg6 x3 j b).trans (hu j b)) hP hV

end Cert.KernelIdeal.Trip

end
-- ==== Proof.RefRead.lean ====
/- The reference read at an index: its composed term in named stages, each stage at a batch, a head, a query
   and a key, and the result for a finite row of logits as the weighted sum of the values. -/
module

public import proofs.«01_k».proof.Proof.Stick
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Cert.Proof.Stick

/-- The queries by batch, head, position and channel. -/
def qh (X : FVec Ideal S8192x6144 .bf16) : FVec Ideal S2x16x4096x128 .f32 :=
  transpose S2x16x4096x128 [0, 2, 1, 3] (shapeCast _ (extractStridedSlice S2x4096x2048 ![0, 0, 0] (shapeCast _ (extf .f32 X bitsLt_bf16_f32) shapeCasts_S8192x6144_S2x4096x6144) slices_S2x4096x6144_S2x4096x2048_0_0_0) shapeCasts_S2x4096x2048_S2x4096x16x128) transposes_S2x4096x16x128_S2x16x4096x128_0_2_1_3

/-- The keys, likewise. -/
def kh (X : FVec Ideal S8192x6144 .bf16) : FVec Ideal S2x16x4096x128 .f32 :=
  transpose S2x16x4096x128 [0, 2, 1, 3] (shapeCast _ (extractStridedSlice S2x4096x2048 ![0, 0, 2048] (shapeCast _ (extf .f32 X bitsLt_bf16_f32) shapeCasts_S8192x6144_S2x4096x6144) slices_S2x4096x6144_S2x4096x2048_0_0_2048) shapeCasts_S2x4096x2048_S2x4096x16x128) transposes_S2x4096x16x128_S2x16x4096x128_0_2_1_3

/-- The values, likewise. -/
def vh (X : FVec Ideal S8192x6144 .bf16) : FVec Ideal S2x16x4096x128 .f32 :=
  transpose S2x16x4096x128 [0, 2, 1, 3] (shapeCast _ (extractStridedSlice S2x4096x2048 ![0, 0, 4096] (shapeCast _ (extf .f32 X bitsLt_bf16_f32) shapeCasts_S8192x6144_S2x4096x6144) slices_S2x4096x6144_S2x4096x2048_0_0_4096) shapeCasts_S2x4096x2048_S2x4096x16x128) transposes_S2x4096x16x128_S2x16x4096x128_0_2_1_3

/-- The logits in base e. -/
def logit (q k : FVec Ideal S2x16x4096x128 .f32) : FVec Ideal S2x16x4096x4096 .f32 :=
  mulf (Host.dotGeneral dot_S2x16x4096x128_S2x16x4096x128_S2x16x4096x4096_3_3_2_2_01_01 none q k) (broadcastInDim S2x16x4096x4096 ![] bcast_S_S2x16x4096x4096 (Host.log (constant S_ .f32 0x40000000#32)))

/-- The zero array. -/
def zero : FVec Ideal S2x16x4096x4096 .f32 :=
  broadcastInDim S2x16x4096x4096 ![] bcast_S_S2x16x4096x4096 (constant S_ .f32 0x00000000#32)

/-- Which keys come before a query. -/
def mask : IVec S2x16x4096x4096 1 :=
  broadcastInDim S2x16x4096x4096 ![2, 3] bcast_S4096x4096_S2x16x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The softplus as the host library spells it. -/
def softplus (z : FVec Ideal S2x16x4096x4096 .f32) : FVec Ideal S2x16x4096x4096 .f32 :=
  select (cmpf .une (subf z zero) (subf z zero)) (addf z zero) (addf (maximumf z zero) (Host.log1p (Host.exp (Host.negf (Host.absf (subf z zero))))))

/-- The masked logarithms of one minus the sigmoid. -/
def logOneMinus (z : FVec Ideal S2x16x4096x4096 .f32) : FVec Ideal S2x16x4096x4096 .f32 :=
  select mask (Host.negf (softplus z)) (broadcastInDim S2x16x4096x4096 ![] bcast_S_S2x16x4096x4096 (id (constant S_ .f32 0x00000000#32)))

/-- The reversed running sum along the keys. -/
def runningSum (x : FVec Ideal S2x16x4096x4096 .f32) : FVec Ideal S2x16x4096x4096 .f32 :=
  Host.reduceWindowAdd ![1, 1, 1, 4096] ![1, 1, 1, 1] ![0, 0, 0, 0] ![0, 0, 0, 4095] x (broadcastInDim S_ ![] bcast_S_S_ (constant S_ .f32 0x00000000#32)) reduceWindows_S2x16x4096x4096_S2x16x4096x4096_w1s1p0_0_w1s1p0_0_w1s1p0_0_w4096s1p0_4095 h_S_

/-- The attention weights. -/
def weights (z : FVec Ideal S2x16x4096x4096 .f32) : FVec Ideal S2x16x4096x4096 .f32 :=
  select mask (Host.exp (addf (Host.negf (softplus (Host.negf z))) (subf (runningSum (logOneMinus z)) (logOneMinus z)))) (broadcastInDim S2x16x4096x4096 ![] bcast_S_S2x16x4096x4096 (id (constant S_ .f32 0x00000000#32)))

/-- The reference's result from the argument array. -/
def result (X : FVec Ideal S8192x6144 .bf16) : FVec Ideal S8192x2048 .bf16 :=
  truncf .bf16 (shapeCast _ (transpose S2x4096x16x128 [0, 2, 1, 3] (Host.dotGeneral dot_S2x16x4096x4096_S2x16x4096x128_S2x16x4096x128_3_2_2_3_01_01 none (weights (logit (qh X) (kh X))) (vh X)) transposes_S2x16x4096x128_S2x4096x16x128_0_2_1_3) shapeCasts_S2x4096x16x128_S8192x2048) bitsLt_bf16_f32

/-- The run's composed term is these stages. -/
theorem res_eq (m : (ℓ : Loc nD τ sig) → Buf (Elt Ideal) ℓ) (c : Dev nD) :
    Value.res_main_v34 m c = result (m ((c.tc : Thread nD τ).loc main_arg0)) := rfl

theorem qh_at (X : FVec Ideal S8192x6144 .bf16) (b : Fin 2) (h : Fin 16) (t : Fin 4096) (d : Fin 128) :
    qh X (ix4 b h t d) = X (ix2 ⟨b.val * 4096 + t.val, by omega⟩ ⟨h.val * 128 + d.val, by omega⟩) := by
  pointwise [qh]

theorem kh_at (X : FVec Ideal S8192x6144 .bf16) (b : Fin 2) (h : Fin 16) (t : Fin 4096) (d : Fin 128) :
    kh X (ix4 b h t d) = X (ix2 ⟨b.val * 4096 + t.val, by omega⟩ ⟨2048 + (h.val * 128 + d.val), by omega⟩) := by
  pointwise [kh]

theorem vh_at (X : FVec Ideal S8192x6144 .bf16) (b : Fin 2) (h : Fin 16) (t : Fin 4096) (d : Fin 128) :
    vh X (ix4 b h t d) = X (ix2 ⟨b.val * 4096 + t.val, by omega⟩ ⟨4096 + (h.val * 128 + d.val), by omega⟩) := by
  pointwise [vh]

/-- The reference's constant 2.0. -/
theorem two_bits : Ideal.ofBits FTy.f32 1073741824#32 = ((2 : ℝ) : EReal) := by
  simp [Ideal.ofBits, Ideal.ieee]
  rw [← EReal.coe_mul]
  norm_num

theorem logit_at (q k : FVec Ideal S2x16x4096x128 .f32) (b : Fin 2) (h : Fin 16) (t s : Fin 4096) :
    logit q k (ix4 b h t s) = (∑ d : Fin 128, q (ix4 b h t d) * k (ix4 b h s d)) * ((Real.log 2 : ℝ) : EReal) := by
  pointwise [logit]
  rw [two_bits, Ideal.log_coe, if_neg (by norm_num)]

theorem mask_at (b : Fin 2) (h : Fin 16) (t s : Fin 4096) :
    mask (ix4 b h t s) = if s.val < t.val then 1#1 else 0#1 := by
  pointwise [mask]
  word_cmp
  by_cases hst : s.val < t.val
  · rw [if_pos hst, decide_eq_true hst]; rfl
  · rw [if_neg hst, decide_eq_false hst]; rfl

theorem zero_at (i : S_.Idx) : (id (constant S_ FTy.f32 0#32) : FVec Ideal S_ .f32) i = 0 := by
  show Ideal.ofBits FTy.f32 0#32 = 0
  simp [Ideal.ofBits, Ideal.ieee]

/-- The softplus of a finite number. -/
theorem softplus_at (z : FVec Ideal S2x16x4096x4096 .f32) (b : Fin 2) (h : Fin 16) (t s : Fin 4096) (x : ℝ)
    (hx : z (ix4 b h t s) = (x : EReal)) :
    softplus z (ix4 b h t s) = ((Real.log (1 + Real.exp x) : ℝ) : EReal) := by
  pointwise [softplus, zero]
  rw [if_neg (not_not.mpr rfl), hx, ← host_softplus x, sub_zero]
  rfl

/-- A masked logarithm of one minus the sigmoid, for a finite row of logits. -/
theorem logOneMinus_at (z : FVec Ideal S2x16x4096x4096 .f32) (b : Fin 2) (h : Fin 16) (t s : Fin 4096) (P : ℕ → ℝ)
    (hP : z (ix4 b h t s) = ((P s * Real.log 2 : ℝ) : EReal)) :
    logOneMinus z (ix4 b h t s) = ((lom P t s : ℝ) : EReal) := by
  pointwise [logOneMinus]
  rw [mask_at, softplus_at z b h t s _ hP, zero_at, lom]
  by_cases hst : s.val < t.val
  · rw [if_pos hst, if_pos hst]; rfl
  · rw [if_neg hst, if_neg hst]; rfl

/-- A left fold of additions is a sum. -/
theorem foldl_add {n : ℕ} (f : Fin n → EReal) (v : EReal) :
    (List.finRange n).foldl (fun r i => r + f i) v = v + ∑ i, f i := by
  have : ∀ (l : List (Fin n)) (v : EReal), l.foldl (fun r i => r + f i) v = v + (l.map f).sum := by
    intro l
    induction l with
    | nil => intro v; simp
    | cons a l ih => intro v; simp [ih, add_assoc]
  rw [this, Fin.sum_univ_def]

/-- A window sum at an index: the initial value and the sum over the window's positions. -/
theorem reduceWindow_add {s t u : Shape} (window strides lo hi : Fin s.rank → Nat) (x : s.Idx → EReal)
    (init : u.Idx → EReal) (h : s.ReduceWindows window strides lo hi t) (hu : 0 < u.numel) (j : t.Idx) :
    Host.reduceWindow (· + ·) window strides lo hi x init h hu j
      = init (Shape.Idx.first hu) + ∑ w : (⟨s.rank, window⟩ : Shape).Idx,
        if hin : ∀ a, lo a ≤ (j (a.cast h.1.symm)).val * strides a + (w a).val
            ∧ (j (a.cast h.1.symm)).val * strides a + (w a).val - lo a < s.size a
        then x (fun a => ⟨(j (a.cast h.1.symm)).val * strides a + (w a).val - lo a, (hin a).2⟩)
        else init (Shape.Idx.first hu) := by
  unfold Host.reduceWindow
  rw [foldl_add, ← Equiv.sum_comp (⟨s.rank, window⟩ : Shape).rowMajor]
  simp only [Equiv.symm_apply_apply]

/-- The reversed running sum at a key: the operand from that key on. -/
theorem runningSum_at (x : FVec Ideal S2x16x4096x4096 .f32) (b : Fin 2) (h : Fin 16) (t s : Fin 4096) :
    runningSum x (ix4 b h t s)
      = ∑ k : Fin 4096, if hk : s.val + k.val < 4096 then x (ix4 b h t ⟨s.val + k.val, hk⟩) else 0 := by
  have h0 : ∀ i : (⟨0, ![]⟩ : Shape).Idx, (broadcastInDim S_ ![] bcast_S_S_ (constant S_ .f32 0x00000000#32) : FVec Ideal S_ .f32) i = 0 := by
    intro i
    show Ideal.ofBits FTy.f32 0#32 = 0
    simp [Ideal.ofBits, Ideal.ieee]
  unfold runningSum Host.reduceWindowAdd
  rw [Ideal.hostReduceWindowAdd_def, h0]
  unfold Ideal.hostReduceWindowAdd
  rw [reduceWindow_add, zero_add]
  refine (sum_idx4 _).trans ?_
  rw [Fin.sum_univ_one, Fin.sum_univ_one, Fin.sum_univ_one]
  refine Finset.sum_congr rfl fun k _ => ?_
  by_cases hk : s.val + k.val < 4096
  · rw [dif_pos hk, dif_pos]
    · refine congrArg x (funext fun a => Fin.ext ?_)
      match a with
      | ⟨0, _⟩ => show b.val * 1 + 0 - 0 = b.val; omega
      | ⟨1, _⟩ => show h.val * 1 + 0 - 0 = h.val; omega
      | ⟨2, _⟩ => show t.val * 1 + 0 - 0 = t.val; omega
      | ⟨3, _⟩ => show s.val * 1 + k.val - 0 = s.val + k.val; omega
    · intro a
      match a with
      | ⟨0, _⟩ => show 0 ≤ b.val * 1 + 0 ∧ b.val * 1 + 0 - 0 < 2; omega
      | ⟨1, _⟩ => show 0 ≤ h.val * 1 + 0 ∧ h.val * 1 + 0 - 0 < 16; omega
      | ⟨2, _⟩ => show 0 ≤ t.val * 1 + 0 ∧ t.val * 1 + 0 - 0 < 4096; omega
      | ⟨3, _⟩ => show 0 ≤ s.val * 1 + k.val ∧ s.val * 1 + k.val - 0 < 4096; omega
  · rw [dif_neg hk, dif_neg]
    intro hin
    have h3 : 0 ≤ s.val * 1 + k.val ∧ s.val * 1 + k.val - 0 < 4096 := hin (3 : Fin 4)
    omega

/-- A weight, for a finite row of logits. -/
theorem weights_at (z : FVec Ideal S2x16x4096x4096 .f32) (b : Fin 2) (h : Fin 16) (t s : Fin 4096) (P : ℕ → ℝ)
    (hP : ∀ s : Fin 4096, z (ix4 b h t s) = ((P s * Real.log 2 : ℝ) : EReal)) :
    weights z (ix4 b h t s) = ((weight P t s : ℝ) : EReal) := by
  have hrun : runningSum (logOneMinus z) (ix4 b h t s) = ((-(between P s t * Real.log 2) : ℝ) : EReal) := by
    rw [runningSum_at, ← sum_lom P 4096 s t t.isLt.le, Finset.sum_range, coe_sum]
    refine Finset.sum_congr rfl fun k _ => ?_
    by_cases hk : s.val + k.val < 4096
    · rw [dif_pos hk, if_pos hk, logOneMinus_at z b h t ⟨s.val + k.val, hk⟩ P (hP _)]
    · rw [dif_neg hk, if_neg hk, EReal.coe_zero]
  have hneg : Host.negf z (ix4 b h t s) = ((-(P s * Real.log 2) : ℝ) : EReal) := by
    show -(z (ix4 b h t s)) = _
    rw [hP, EReal.coe_neg]
  pointwise [weights]
  rw [mask_at, softplus_at (Host.negf z) b h t s _ hneg, hrun, logOneMinus_at z b h t s P (hP s), zero_at,
    ← EReal.coe_neg, ← EReal.coe_sub, ← EReal.coe_add, Ideal.exp_coe]
  by_cases hst : s.val < t.val
  · rw [if_pos hst, exp_weight P s t hst]; rfl
  · rw [if_neg hst, weight, if_neg hst]; rfl

/-- The reference's result at a row and a channel: the values weighted, where the row's logits are finite. -/
theorem result_at (X : FVec Ideal S8192x6144 .bf16) (b : Fin 2) (t : Fin 4096) (h : Fin 16) (d : Fin 128) (P : ℕ → ℝ)
    (hP : ∀ s : Fin 4096, ∑ e : Fin 128, X (ix2 ⟨b.val * 4096 + t.val, by omega⟩ ⟨h.val * 128 + e.val, by omega⟩)
      * X (ix2 ⟨b.val * 4096 + s.val, by omega⟩ ⟨2048 + (h.val * 128 + e.val), by omega⟩) = ((P s : ℝ) : EReal)) :
    result X (ix2 ⟨b.val * 4096 + t.val, by omega⟩ ⟨h.val * 128 + d.val, by omega⟩)
      = ∑ s : Fin 4096, ((weight P t s : ℝ) : EReal)
        * X (ix2 ⟨b.val * 4096 + s.val, by omega⟩ ⟨4096 + (h.val * 128 + d.val), by omega⟩) := by
  pointwise [result]
  refine Finset.sum_congr rfl fun s _ => ?_
  rw [vh_at, weights_at _ b h t s P fun s => ?_]
  rw [logit_at, EReal.coe_mul, ← hP]
  refine congrArg (· * _) (Finset.sum_congr rfl fun e _ => ?_)
  rw [qh_at, kh_at]

end Cert.ReferenceIdeal.Read

end
-- ==== Proof.Final.lean ====
/- The array that the kernel leaves, against the reference's result. -/
module

public import proofs.«01_k».proof.Proof.Out
public import proofs.«01_k».proof.Proof.RefRead

@[expose] public section

set_option maxRecDepth 16384

noncomputable section

namespace Cert.KernelIdeal.Final

open Cert.KernelIdeal Cert.KernelIdeal.Gen Idealize.ShloMosaic Idealize.ShloMosaic.TcCoe Idealize.SL.Sem
open Cert.Proof.Stick

variable (m : (ℓ : Loc nD τ sig) → Buf (Elt Ideal) ℓ)

/-- The windows' block indices at a grid point. -/
theorem idx : ∀ t : Fin cfg0.N, win0_0.index t = ![(grid0.coords t 0).val * 16 + (grid0.coords t 2).val, (grid0.coords t 1).val]
    ∧ win0_1.index t = ![(grid0.coords t 0).val, 2 + (grid0.coords t 1).val]
    ∧ win0_2.index t = ![(grid0.coords t 0).val, 4 + (grid0.coords t 1).val]
    ∧ win0_3.index t = ![0, 0]
    ∧ win0_4.index t = ![(grid0.coords t 0).val * 16 + (grid0.coords t 2).val, (grid0.coords t 1).val] :=
  (by decide +kernel : ∀ t : Fin grid0.N, _)

/-- The query block's entries are the rows' of the argument. -/
theorem q_at (c : Dev nD) (t : Fin cfg0.N) (r : Fin 256) (e : Fin 1024) (R C : ℕ) (hR : R < 8192) (hC : C < 6144)
    (h0 : R = ((grid0.coords t 0).val * 16 + (grid0.coords t 2).val) * 256 + r.val) (h1 : C = (grid0.coords t 1).val * 1024 + e.val) :
    iblk m c 0 t (ix2 r e) = m ((c : Thread nD τ).loc main_arg0) (ix2 ⟨R, hR⟩ ⟨C, hC⟩) := by
  blk_ext [iblk, V_main_arg0, idx t]

theorem k_at (c : Dev nD) (t : Fin cfg0.N) (s : Fin 4096) (e : Fin 1024) (R C : ℕ) (hR : R < 8192) (hC : C < 6144)
    (h0 : R = (grid0.coords t 0).val * 4096 + s.val) (h1 : C = (2 + (grid0.coords t 1).val) * 1024 + e.val) :
    iblk m c 1 t (ix2 s e) = m ((c : Thread nD τ).loc main_arg0) (ix2 ⟨R, hR⟩ ⟨C, hC⟩) := by
  blk_ext [iblk, V_main_arg0, idx t]

theorem v_at (c : Dev nD) (t : Fin cfg0.N) (s : Fin 4096) (e : Fin 1024) (R C : ℕ) (hR : R < 8192) (hC : C < 6144)
    (h0 : R = (grid0.coords t 0).val * 4096 + s.val) (h1 : C = (4 + (grid0.coords t 1).val) * 1024 + e.val) :
    iblk m c 2 t (ix2 s e) = m ((c : Thread nD τ).loc main_arg0) (ix2 ⟨R, hR⟩ ⟨C, hC⟩) := by
  blk_ext [iblk, V_main_arg0, idx t]

/-- The output block's entries' places. -/
theorem o_at (t : Fin cfg0.N) (r : Fin 256) (e : Fin 1024) (R C : ℕ) (hR : R < 8192) (hC : C < 2048)
    (h0 : R = ((grid0.coords t 0).val * 16 + (grid0.coords t 2).val) * 256 + r.val) (h1 : C = (grid0.coords t 1).val * 1024 + e.val)
    (G : S8192x2048.Idx → EReal) : G ((win0_4.blk t).view.emb (ix2 r e)) = G (ix2 ⟨R, hR⟩ ⟨C, hC⟩) := by
  blk_ext [idx t]

/-- An index of the output block: a row, a head and a channel of the head. -/
theorem split (y : S256x1024.Idx) : ∃ (r : Fin 256) (h : Fin 8) (d : Fin 128), y = ix2 r ⟨h.val * 128 + d.val, by omega⟩ := by
  have h0 : (y 0).val < 256 := (y 0).isLt
  have h1 : (y 1).val < 1024 := (y 1).isLt
  refine ⟨⟨(y 0).val, h0⟩, ⟨(y 1).val / 128, by omega⟩, ⟨(y 1).val % 128, by omega⟩, funext fun x => Fin.ext ?_⟩
  match x with
  | ⟨0, _⟩ => rfl
  | ⟨1, _⟩ => show (y 1).val = (y 1).val / 128 * 128 + (y 1).val % 128; omega

/-- One entry of what a grid point writes is the reference's result at its place. -/
theorem point (c : Dev nD) (X : FVec Ideal S8192x6144 .bf16) (hX : m ((c : Thread nD τ).loc main_arg0) = X)
    (hu : ∀ (t : Fin cfg0.N) (j : Fin 512) (b : Fin 256), iblk m c 3 t (ix2 j b) = (if b.val ≤ j.val % 256 then 1 else 0 : EReal))
    (P : Fin 2 → Fin 4096 → Fin 16 → ℕ → ℝ)
    (hP : ∀ (b : Fin 2) (t : Fin 4096) (h : Fin 16) (s : Fin 4096),
      ∑ e : Fin 128, X (ix2 ⟨b.val * 4096 + t.val, by omega⟩ ⟨h.val * 128 + e.val, by omega⟩)
        * X (ix2 ⟨b.val * 4096 + s.val, by omega⟩ ⟨2048 + (h.val * 128 + e.val), by omega⟩) = ((P b t h s : ℝ) : EReal))
    (t : Fin cfg0.N) (b0 : (grid0.coords t 0).val < 2) (b1 : (grid0.coords t 1).val < 2) (b2 : (grid0.coords t 2).val < 16)
    (r : Fin 256) (h : Fin 8) (d : Fin 128) :
    outsAt0 m c t (ix2 r ⟨h.val * 128 + d.val, by omega⟩)
      = Cert.ReferenceIdeal.Read.result X (ix2 ⟨((grid0.coords t 0).val * 16 + (grid0.coords t 2).val) * 256 + r.val, by omega⟩
          ⟨(grid0.coords t 1).val * 1024 + (h.val * 128 + d.val), by omega⟩) := by
  subst hX
  have href := Cert.ReferenceIdeal.Read.result_at (m ((c : Thread nD τ).loc main_arg0)) ⟨(grid0.coords t 0).val, b0⟩ ⟨(grid0.coords t 2).val * 256 + r.val, by omega⟩
    ⟨(grid0.coords t 1).val * 8 + h.val, by omega⟩ d (P ⟨(grid0.coords t 0).val, b0⟩ ⟨(grid0.coords t 2).val * 256 + r.val, by omega⟩ ⟨(grid0.coords t 1).val * 8 + h.val, by omega⟩)
    (hP _ _ _)
  have hrow : ((grid0.coords t 0).val * 16 + (grid0.coords t 2).val) * 256 + r.val = (grid0.coords t 0).val * 4096 + ((grid0.coords t 2).val * 256 + r.val) := by omega
  have hcol : (grid0.coords t 1).val * 1024 + (h.val * 128 + d.val) = ((grid0.coords t 1).val * 8 + h.val) * 128 + d.val := by omega
  refine Eq.trans ?_ (href.symm.trans (congrArg _ (congrArg₂ ix2 (Fin.ext hrow.symm) (Fin.ext hcol.symm))))
  unfold outsAt0
  refine (Trip.out_at c (grid0.coords t) _ _ _ _ _ _ _ _ _ _ _ _ (iblk m c 0 t) (iblk m c 1 t) (iblk m c 2 t) (iblk m c 3 t) h r d
    (P ⟨(grid0.coords t 0).val, b0⟩ ⟨(grid0.coords t 2).val * 256 + r.val, by omega⟩ ⟨(grid0.coords t 1).val * 8 + h.val, by omega⟩)
    (fun s => if hs : s < 4096 then (m ((c : Thread nD τ).loc main_arg0) : FVec Ideal S8192x6144 .bf16)
      (ix2 ⟨(grid0.coords t 0).val * 4096 + s, by omega⟩ ⟨4096 + (((grid0.coords t 1).val * 8 + h.val) * 128 + d.val), by omega⟩) else 0)
    (hu t) (fun s => ?_) (fun s => ?_)).trans ?_
  · refine Eq.trans (Finset.sum_congr rfl fun e _ => ?_) (hP ⟨(grid0.coords t 0).val, b0⟩ ⟨(grid0.coords t 2).val * 256 + r.val, by omega⟩ ⟨(grid0.coords t 1).val * 8 + h.val, by omega⟩ s)
    exact congrArg₂ (· * ·) (q_at m c t r _ _ _ _ _ (by show (grid0.coords t 0).val * 4096 + ((grid0.coords t 2).val * 256 + r.val) = _; omega) (by show ((grid0.coords t 1).val * 8 + h.val) * 128 + e.val = _ + (h.val * 128 + e.val); omega))
      (k_at m c t s _ _ _ _ _ rfl (by show 2048 + (((grid0.coords t 1).val * 8 + h.val) * 128 + e.val) = _ + (h.val * 128 + e.val); omega))
  · rw [dif_pos s.isLt]
    exact v_at m c t s _ _ _ _ _ rfl (by show 4096 + (((grid0.coords t 1).val * 8 + h.val) * 128 + d.val) = _ + (h.val * 128 + d.val); omega)
  · refine Finset.sum_congr rfl fun s _ => congrArg _ ?_
    rw [dif_pos s.isLt]

/-- Where every score is a real number, the kernel's array is the reference's result. -/
theorem final (c : Dev nD) (X : FVec Ideal S8192x6144 .bf16) (hX : m ((c : Thread nD τ).loc main_arg0) = X)
    (hu : ∀ (t : Fin cfg0.N) (j : Fin 512) (b : Fin 256), iblk m c 3 t (ix2 j b) = (if b.val ≤ j.val % 256 then 1 else 0 : EReal))
    (P : Fin 2 → Fin 4096 → Fin 16 → ℕ → ℝ)
    (hP : ∀ (b : Fin 2) (t : Fin 4096) (h : Fin 16) (s : Fin 4096),
      ∑ e : Fin 128, X (ix2 ⟨b.val * 4096 + t.val, by omega⟩ ⟨h.val * 128 + e.val, by omega⟩)
        * X (ix2 ⟨b.val * 4096 + s.val, by omega⟩ ⟨2048 + (h.val * 128 + e.val), by omega⟩) = ((P b t h s : ℝ) : EReal)) :
    (dats m 0 c).arrAt 4 cfg0.N = Cert.ReferenceIdeal.Read.result X := by
  refine (dats m 0 c).arrAt_eq_of_covers 4 _ (by decide +kernel) fun t _ y => ?_
  blk_simp
  rw [after0_4]
  have b0 : (grid0.coords t 0).val < 2 := (grid0.coords t 0).isLt
  have b1 : (grid0.coords t 1).val < 2 := (grid0.coords t 1).isLt
  have b2 : (grid0.coords t 2).val < 16 := (grid0.coords t 2).isLt
  obtain ⟨r, h, d, rfl⟩ := split y
  have hp := point m c X hX hu P hP t b0 b1 b2 r h d
  generalize Cert.ReferenceIdeal.Read.result X = G at hp ⊢
  rw [hp]
  exact (o_at t r ⟨h.val * 128 + d.val, by omega⟩ (((grid0.coords t 0).val * 16 + (grid0.coords t 2).val) * 256 + r.val)
    ((grid0.coords t 1).val * 1024 + (h.val * 128 + d.val)) (by omega) (by omega) rfl rfl G).symm

end Cert.KernelIdeal.Final

end
-- ==== Proof.Const.lean ====
/- The triangle of ones that the host computes and the kernel reads whole at every grid point. -/
module

public import proofs.«01_k».proof.Proof.Block

@[expose] public section

set_option maxRecDepth 16384

noncomputable section

namespace Cert.KernelIdeal.Const

open Cert.KernelIdeal Cert.KernelIdeal.Gen Idealize.ShloMosaic Idealize.ShloMosaic.TcCoe Idealize.SL.Sem

variable (m : (ℓ : Loc nD τ sig) → Buf (Elt Ideal) ℓ)

theorem idx3 : ∀ t : Fin cfg0.N, win0_3.index t = ![0, 0] := (by decide +kernel : ∀ t : Fin grid0.N, _)

theorem u_at (c : Dev nD) (t : Fin cfg0.N) (j : Fin 512) (b : Fin 256) :
    iblk m c 3 t (ix2 j b) = V m c main_v3 (ix2 j b) := by
  blk_ext [iblk, idx3 t]

/-- The lower triangle of ones, from the coordinates of its entries. -/
def tri : FVec Ideal S256x256 .f32 :=
  select (cmpi .sge (addi (iotaInDim S256x256 32 0) (broadcastInDim S256x256 ![] bcast_S_S256x256 (constantI S_ 32 0#32))) (iotaInDim S256x256 32 1))
    (broadcastInDim S256x256 ![] bcast_S_S256x256 (constant S_ .f32 0x3F800000#32))
    (broadcastInDim S256x256 ![] bcast_S_S256x256 (constant S_ .f32 0x00000000#32))

/-- The operand is the triangle twice, one above the other. -/
theorem V_tri (c : Dev nD) :
    V m c main_v3 = truncf .bf16 (concatenate S512x256 0 [⟨S256x256, tri⟩, ⟨S256x256, tri⟩] concatenates_S256x256_S256x256_S512x256_d0) bitsLt_bf16_f32 := by
  unfold V
  simp only [hostOps0, hostOps0_1, hostOps0_2, List.flatten, List.append]
  after_results
  rfl

theorem tri_at (j b : Fin 256) : tri (ix2 j b) = (if b.val ≤ j.val then 1 else 0 : EReal) := by
  pointwise [tri]
  rw [Block.addi_zero]
  word_cmp

theorem stacked_at (j : Fin 512) (b : Fin 256) (T : FVec Ideal S256x256 .f32) :
    truncf .bf16 (concatenate S512x256 0 [⟨S256x256, T⟩, ⟨S256x256, T⟩] concatenates_S256x256_S256x256_S512x256_d0) bitsLt_bf16_f32 (ix2 j b)
      = T (ix2 ⟨j.val % 256, by omega⟩ b) := by
  pointwise
  split
  · exact congrArg (fun n => T (ix2 n b)) (Fin.ext (Nat.mod_eq_of_lt ‹_›).symm)
  · exact congrArg (fun n => T (ix2 n b)) (Fin.ext (show j.val - 256 = j.val % 256 by omega))

/-- The kernel's constant operand: at every grid point, the triangle, twice. -/
theorem const_at (c : Dev nD) (t : Fin cfg0.N) (j : Fin 512) (b : Fin 256) :
    iblk m c 3 t (ix2 j b) = (if b.val ≤ j.val % 256 then 1 else 0 : EReal) := by
  rw [u_at, V_tri, stacked_at, tri_at]

end Cert.KernelIdeal.Const

end
-- ==== Proof.Finite.lean ====
/- What the precondition gives: every query and key entry is a real number, hence every score. -/
module

public import proofs.«01_k».proof.Defs
public import Idealize.ShloMosaic.Lib.ReduceAll
public import Idealize.ShloMosaic.Lib.Pipeline.ValueKit
public import Idealize.ShloMosaic.Lib.WordCmp
public import proofs.«01_k».proof.Proof.Stick

@[expose] public section

set_option maxRecDepth 16384

noncomputable section

namespace Cert.Pre_finite_qk

open Idealize.ShloMosaic Cert.Proof.Stick

/-- The shapes' side conditions of the precondition. -/
instance factsPre : Cert.Pre_finite_qk.Facts where
  slices_S8192x6144_S8192x4096_0_0 := by decide
  bitsLt_bf16_f32 := by decide
  bcast_S_S8192x4096 := by decide
  reducesTo_S8192x4096_S_d0_1 := by decide
  h_S_ := by decide

instance : Subsingleton S_.Idx := ⟨fun _ _ => funext fun x => x.elim0⟩

theorem inf_word : Ideal.ofBits FTy.f32 0x7F800000#32 = ⊤ := by
  simp [Ideal.ofBits, Ideal.ieee]

/-- Every query and key entry is below infinity in absolute value. -/
theorem abs_lt (X : FVec Ideal S8192x6144 .bf16) (h : fn (F := Ideal) X = fun _ => 1#1) (r : Fin 8192) (c : Fin 4096) :
    max (X (ix2 r ⟨c.val, by omega⟩)) (-(X (ix2 r ⟨c.val, by omega⟩))) < ⊤ := by
  have h1 := Host.reduce_andi_all _ _ _ _ (fun x => x.elim0) (congrFun h (fun x => x.elim0)) (ix2 r c)
  pointwise at h1
  rw [inf_word] at h1
  replace h1 : BitVec.ofBool (decide (max (X (ix2 r ⟨c.val, by omega⟩) : EReal) (-(X (ix2 r ⟨c.val, by omega⟩))) < ⊤)) = 1#1 := h1
  by_contra hn
  rw [decide_eq_false hn] at h1
  exact absurd h1 (by decide)

theorem entry_real (X : FVec Ideal S8192x6144 .bf16) (h : fn (F := Ideal) X = fun _ => 1#1) (r : Fin 8192) (c : Fin 4096) :
    ∃ x : ℝ, X (ix2 r ⟨c.val, by omega⟩) = (x : EReal) := by
  have := abs_lt X h r c
  generalize (X (ix2 r ⟨c.val, by omega⟩) : EReal) = e at this
  change EReal at e
  induction e using EReal.rec with
  | bot => exact absurd this (by simp)
  | coe x => exact ⟨x, rfl⟩
  | top => exact absurd this (by simp)

/-- Every score is a real number. -/
theorem score_real (X : FVec Ideal S8192x6144 .bf16) (h : fn (F := Ideal) X = fun _ => 1#1) :
    ∃ P : Fin 2 → Fin 4096 → Fin 16 → ℕ → ℝ, ∀ (b : Fin 2) (t : Fin 4096) (g : Fin 16) (s : Fin 4096),
      ∑ e : Fin 128, X (ix2 ⟨b.val * 4096 + t.val, by omega⟩ ⟨g.val * 128 + e.val, by omega⟩)
        * X (ix2 ⟨b.val * 4096 + s.val, by omega⟩ ⟨2048 + (g.val * 128 + e.val), by omega⟩) = ((P b t g s : ℝ) : EReal) := by
  choose x hx using entry_real X h
  refine ⟨fun b t g s => if hs : s < 4096 then ∑ e : Fin 128, x ⟨b.val * 4096 + t.val, by omega⟩ ⟨g.val * 128 + e.val, by omega⟩
    * x ⟨b.val * 4096 + s, by omega⟩ ⟨2048 + (g.val * 128 + e.val), by omega⟩ else 0, fun b t g s => ?_⟩
  beta_reduce
  rw [dif_pos s.isLt, coe_sum]
  refine Finset.sum_congr rfl fun e _ => ?_
  rw [EReal.coe_mul]
  exact congrArg₂ (· * ·) (hx _ ⟨g.val * 128 + e.val, by omega⟩) (hx _ ⟨2048 + (g.val * 128 + e.val), by omega⟩)

end Cert.Pre_finite_qk

end
-- ==== Proof.lean ====
/- The claims: every program runs to quiescence with its arguments unchanged, each idealization with a named constant is the
   sanctioned one, and over exact arithmetic each kernel computes its reference's array: the stick-breaking attention wherever the
   queries and keys are finite; the feed-forward step, the projection to queries, keys and values, the output projection and
   the block compression everywhere. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Mlp
public import proofs.«01_k».proof.Proof.Qkv
public import proofs.«01_k».proof.Proof.OutProj
public import proofs.«01_k».proof.Proof.Compress
public import proofs.«01_k».proof.Proof.Final
public import proofs.«01_k».proof.Proof.Const
public import proofs.«01_k».proof.Proof.Finite
public import Idealize.ShloMosaic.Lib.Quiescent

@[expose] public section

noncomputable section

namespace Cert.Proof

open Idealize.ShloMosaic Idealize.SL.Sem

/-- The reference runs, leaves its argument, and has no semaphore to leave raised. -/
theorem reference_frame : Cert.quiescent_ReferenceIdeal := fun m g _ =>
  (θ_run _ _ _).mono (fun r h => ⟨fun c => (h c).2, sem_eq_zero_of_no_sems rfl r.2⟩) (Cert.ReferenceIdeal.Value.run (F := Ideal) m g)

theorem reference2_frame : Cert.quiescent_Reference2Ideal := fun m g _ =>
  (θ_run _ _ _).mono (fun r h => ⟨fun c => (h c).2, sem_eq_zero_of_no_sems rfl r.2⟩) (Cert.Reference2Ideal.Value.run (F := Ideal) m g)

theorem reference3_frame : Cert.quiescent_Reference3Ideal := fun m g _ =>
  (θ_run _ _ _).mono (fun r h => ⟨fun c => (h c).2, sem_eq_zero_of_no_sems rfl r.2⟩) (Cert.Reference3Ideal.Value.run (F := Ideal) m g)

theorem reference4_frame : Cert.quiescent_Reference4Ideal := fun m g _ =>
  (θ_run _ _ _).mono (fun r h => ⟨fun c => (h c).2, sem_eq_zero_of_no_sems rfl r.2⟩) (Cert.Reference4Ideal.Value.run (F := Ideal) m g)

theorem reference5_frame : Cert.quiescent_Reference5Ideal := fun m g _ =>
  (θ_run _ _ _).mono (fun r h => ⟨fun c => (h c).2, sem_eq_zero_of_no_sems rfl r.2⟩) (Cert.Reference5Ideal.Value.run (F := Ideal) m g)

/-- Where the queries and keys are finite, kernel and reference compute one array. -/
theorem attention : Cert.algebraic_KernelIdeal_ReferenceIdeal_pre_finite_qk := fun m g m' g' hpre hargs => by
  refine ⟨fun c => Cert.ReferenceIdeal.Read.result (m ((c.tc : Thread Cert.KernelIdeal.nD Cert.KernelIdeal.τ).loc Cert.KernelIdeal.main_arg0)),
    (θ_run _ _ _).mono (fun r h c => ⟨(h c).1.trans ?_, (h c).2⟩) (Cert.KernelIdeal.Value.run_blocks m g),
    (θ_run _ _ _).mono (fun r h c => ⟨(h c).1.trans ?_, (h c).2⟩) (Cert.ReferenceIdeal.Value.run (F := Ideal) m' g')⟩
  · obtain ⟨P, hP⟩ := Cert.Pre_finite_qk.score_real _ (hpre c)
    exact Cert.KernelIdeal.Final.final m c _ rfl (Cert.KernelIdeal.Const.const_at m c) P hP
  · rw [Cert.ReferenceIdeal.Read.res_eq, hargs c]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_qk.factsPre,
    fun m g _ => Cert.Kernel.Gen.frame m g,
    fun m g _ => Cert.KernelIdeal.Gen.frame m g,
    fun m g _ => Cert.KernelIdeal.Gen.frame m g,
    reference_frame,
    fun m g _ => reference_frame m g trivial,
    fun m g _ => Cert.Kernel2.Gen.frame m g,
    fun m g _ => Cert.Kernel2Ideal.Gen.frame m g,
    reference2_frame,
    fun m g _ => Cert.Kernel3.Gen.frame m g trivial,
    fun m g _ => Cert.Kernel3Ideal.Gen.frame m g trivial,
    reference3_frame,
    fun m g _ => Cert.Kernel4.Gen.frame m g trivial,
    fun m g _ => Cert.Kernel4Ideal.Gen.frame m g trivial,
    reference4_frame,
    fun m g _ => Cert.Kernel5.Gen.frame m g,
    fun m g _ => Cert.Kernel5Ideal.Gen.frame m g,
    reference5_frame,
    IdealRules.named_const.statement Cert.KernelIdeal.κ "log2e" .f32 0x3FB8AA3B#32 (((Real.log 2)⁻¹ : ℝ) : EReal) rfl,
    attention,
    Cert.Kernel2Ideal.Mlp.agrees,
    Cert.Kernel3Ideal.Qkv.agrees,
    Cert.Kernel4Ideal.OutProj.agrees,
    Cert.Kernel5Ideal.Compress.agrees⟩

end Cert.Proof

end
